-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x2048 : Shape := ⟨2, ![2048, 2048]⟩
abbrev S2048x512 : Shape := ⟨2, ![2048, 512]⟩
abbrev S2x2048x512 : Shape := ⟨3, ![2, 2048, 512]⟩
abbrev S3x512x512 : Shape := ⟨3, ![3, 512, 512]⟩
abbrev S2x512x512 : Shape := ⟨3, ![2, 512, 512]⟩
abbrev S_ : Shape := ⟨0, ![]⟩
abbrev S2 : Shape := ⟨1, ![2]⟩
abbrev S3 : Shape := ⟨1, ![3]⟩
abbrev S1 : Shape := ⟨1, ![1]⟩
abbrev S1x2048x512 : Shape := ⟨3, ![1, 2048, 512]⟩
abbrev S512x512 : Shape := ⟨2, ![512, 512]⟩
abbrev S1x512x512 : Shape := ⟨3, ![1, 512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048x512, .f32⟩
  | .local _ .vmem, ⟨0, _⟩ => ⟨S512x2048, .f32⟩
  | .local _ .vmem, ⟨1, _⟩ => ⟨S2x2048x512, .f32⟩
  | .local _ .vmem, ⟨2, _⟩ => ⟨S3x512x512, .bf16⟩
  | .local _ .vmem, ⟨3, _⟩ => ⟨S3x512x512, .bf16⟩
  | .local _ .vmem, ⟨4, _⟩ => ⟨S2x512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) (c2_i32 : BitVec 32) : Fin 2 → Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c2_i32
  let c4_i32_0 : BitVec 32 := 4#32
  let c0_i32 : BitVec 32 := 0#32
  let v4 : BitVec 1 := Scalar.cmpi .eq c4_i32_0 c0_i32
  let c1_i32_1 : BitVec 32 := 1#32
  let v5 : BitVec 32 := Scalar.select v4 c1_i32_1 c4_i32_0
  let v6 : BitVec 32 := Scalar.remsi v3 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c512_i32 : BitVec 32 := 512#32
  let v14 : BitVec 32 := Scalar.muli v13 c512_i32
  ![0, v14.toNat]
def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_10 : BitVec 32 := 1#32
  let v21 : BitVec 32 := Scalar.addi v2 c1_i32_10
  let c4_i32_11 : BitVec 32 := 4#32
  let c0_i32_12 : BitVec 32 := 0#32
  let v22 : BitVec 1 := Scalar.cmpi .eq c4_i32_11 c0_i32_12
  let c1_i32_13 : BitVec 32 := 1#32
  let v23 : BitVec 32 := Scalar.select v22 c1_i32_13 c4_i32_11
  let v24 : BitVec 32 := Scalar.remsi v21 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c1_i32_18 : BitVec 32 := 1#32
  let v32 : BitVec 32 := Scalar.muli v31 c1_i32_18
  let v33 : BitVec 32 := Scalar.addi c0_i32_19 v32
  v33.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_20 : BitVec 32 := 2#32
  let v34 : BitVec 32 := Scalar.addi v2 c2_i32_20
  let c4_i32_21 : BitVec 32 := 4#32
  let c0_i32_22 : BitVec 32 := 0#32
  let v35 : BitVec 1 := Scalar.cmpi .eq c4_i32_21 c0_i32_22
  let c1_i32_23 : BitVec 32 := 1#32
  let v36 : BitVec 32 := Scalar.select v35 c1_i32_23 c4_i32_21
  let v37 : BitVec 32 := Scalar.remsi v34 v36
  let c0_i32_25 : BitVec 32 := 0#32
  let v39 : BitVec 1 := Scalar.cmpi .slt v37 c0_i32_25
  let c0_i32_26 : BitVec 32 := 0#32
  let v40 : BitVec 1 := Scalar.cmpi .slt v36 c0_i32_26
  let v41 : BitVec 1 := Scalar.xori v39 v40
  let c0_i32_24 : BitVec 32 := 0#32
  let v38 : BitVec 1 := Scalar.cmpi .ne v37 c0_i32_24
  let v42 : BitVec 1 := Scalar.andi v41 v38
  let v43 : BitVec 32 := Scalar.addi v37 v36
  let v44 : BitVec 32 := Scalar.select v42 v43 v37
  let c1_i32_28 : BitVec 32 := 1#32
  let v45 : BitVec 32 := Scalar.muli v44 c1_i32_28
  let v46 : BitVec 32 := Scalar.addi c0_i32_29 v45
  v46.toNat
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v47 : BitVec 32 := Scalar.addi v2 c3_i32
  let c4_i32_30 : BitVec 32 := 4#32
  let c0_i32_31 : BitVec 32 := 0#32
  let v48 : BitVec 1 := Scalar.cmpi .eq c4_i32_30 c0_i32_31
  let c1_i32_32 : BitVec 32 := 1#32
  let v49 : BitVec 32 := Scalar.select v48 c1_i32_32 c4_i32_30
  let v50 : BitVec 32 := Scalar.remsi v47 v49
  let c0_i32_34 : BitVec 32 := 0#32
  let v52 : BitVec 1 := Scalar.cmpi .slt v50 c0_i32_34
  let c0_i32_35 : BitVec 32 := 0#32
  let v53 : BitVec 1 := Scalar.cmpi .slt v49 c0_i32_35
  let v54 : BitVec 1 := Scalar.xori v52 v53
  let c0_i32_33 : BitVec 32 := 0#32
  let v51 : BitVec 1 := Scalar.cmpi .ne v50 c0_i32_33
  let v55 : BitVec 1 := Scalar.andi v54 v51
  let v56 : BitVec 32 := Scalar.addi v50 v49
  let v57 : BitVec 32 := Scalar.select v55 v56 v50
  let c1_i32_37 : BitVec 32 := 1#32
  let v58 : BitVec 32 := Scalar.muli v57 c1_i32_37
  let v59 : BitVec 32 := Scalar.addi c0_i32_38 v58
  v59.toNat
def k0_dev4 (d0 : Dev nD) : Nat :=
  let c0_i32_88 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v115 : BitVec 32 := Scalar.addi v2 c2_i32_76
  let c4_i32_77 : BitVec 32 := 4#32
  let c0_i32_78 : BitVec 32 := 0#32
  let v116 : BitVec 1 := Scalar.cmpi .eq c4_i32_77 c0_i32_78
  let c1_i32_79 : BitVec 32 := 1#32
  let v117 : BitVec 32 := Scalar.select v116 c1_i32_79 c4_i32_77
  let v118 : BitVec 32 := Scalar.remsi v115 v117
  let c0_i32_81 : BitVec 32 := 0#32
  let v120 : BitVec 1 := Scalar.cmpi .slt v118 c0_i32_81
  let c0_i32_82 : BitVec 32 := 0#32
  let v121 : BitVec 1 := Scalar.cmpi .slt v117 c0_i32_82
  let v122 : BitVec 1 := Scalar.xori v120 v121
  let c0_i32_80 : BitVec 32 := 0#32
  let v119 : BitVec 1 := Scalar.cmpi .ne v118 c0_i32_80
  let v123 : BitVec 1 := Scalar.andi v122 v119
  let v124 : BitVec 32 := Scalar.addi v118 v117
  let v125 : BitVec 32 := Scalar.select v123 v124 v118
  let c1_i32_87 : BitVec 32 := 1#32
  let v126 : BitVec 32 := Scalar.muli v125 c1_i32_87
  let v127 : BitVec 32 := Scalar.addi c0_i32_88 v126
  v127.toNat
def k0_dev5 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_132 : BitVec 32 := 1#32
  let v191 : BitVec 32 := Scalar.addi v2 c1_i32_132
  let c4_i32_133 : BitVec 32 := 4#32
  let c0_i32_134 : BitVec 32 := 0#32
  let v192 : BitVec 1 := Scalar.cmpi .eq c4_i32_133 c0_i32_134
  let c1_i32_135 : BitVec 32 := 1#32
  let v193 : BitVec 32 := Scalar.select v192 c1_i32_135 c4_i32_133
  let v194 : BitVec 32 := Scalar.remsi v191 v193
  let c0_i32_137 : BitVec 32 := 0#32
  let v196 : BitVec 1 := Scalar.cmpi .slt v194 c0_i32_137
  let c0_i32_138 : BitVec 32 := 0#32
  let v197 : BitVec 1 := Scalar.cmpi .slt v193 c0_i32_138
  let v198 : BitVec 1 := Scalar.xori v196 v197
  let c0_i32_136 : BitVec 32 := 0#32
  let v195 : BitVec 1 := Scalar.cmpi .ne v194 c0_i32_136
  let v199 : BitVec 1 := Scalar.andi v198 v195
  let v200 : BitVec 32 := Scalar.addi v194 v193
  let v201 : BitVec 32 := Scalar.select v199 v200 v194
  let c1_i32_143 : BitVec 32 := 1#32
  let v202 : BitVec 32 := Scalar.muli v201 c1_i32_143
  let v203 : BitVec 32 := Scalar.addi c0_i32_144 v202
  v203.toNat
def k0_dev6 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_187 : BitVec 32 := 3#32
  let v267 : BitVec 32 := Scalar.addi v2 c3_i32_187
  let c4_i32_188 : BitVec 32 := 4#32
  let c0_i32_189 : BitVec 32 := 0#32
  let v268 : BitVec 1 := Scalar.cmpi .eq c4_i32_188 c0_i32_189
  let c1_i32_190 : BitVec 32 := 1#32
  let v269 : BitVec 32 := Scalar.select v268 c1_i32_190 c4_i32_188
  let v270 : BitVec 32 := Scalar.remsi v267 v269
  let c0_i32_192 : BitVec 32 := 0#32
  let v272 : BitVec 1 := Scalar.cmpi .slt v270 c0_i32_192
  let c0_i32_193 : BitVec 32 := 0#32
  let v273 : BitVec 1 := Scalar.cmpi .slt v269 c0_i32_193
  let v274 : BitVec 1 := Scalar.xori v272 v273
  let c0_i32_191 : BitVec 32 := 0#32
  let v271 : BitVec 1 := Scalar.cmpi .ne v270 c0_i32_191
  let v275 : BitVec 1 := Scalar.andi v274 v271
  let v276 : BitVec 32 := Scalar.addi v270 v269
  let v277 : BitVec 32 := Scalar.select v275 v276 v270
  let c1_i32_198 : BitVec 32 := 1#32
  let v278 : BitVec 32 := Scalar.muli v277 c1_i32_198
  let v279 : BitVec 32 := Scalar.addi c0_i32_199 v278
  v279.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_230 : BitVec 32 := 512#32
  let v325 : BitVec 32 := Scalar.muli v2 c512_i32_230
  let c0_i32_233 : BitVec 32 := 0#32
  ![v325.toNat, 0]
def k0_off3 (d0 : Dev nD) (c1_i32_255 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v345 : BitVec 32 := Scalar.subi v2 c1_i32_255
  let c4_i32_256 : BitVec 32 := 4#32
  let c0_i32_257 : BitVec 32 := 0#32
  let v346 : BitVec 1 := Scalar.cmpi .eq c4_i32_256 c0_i32_257
  let c1_i32_258 : BitVec 32 := 1#32
  let v347 : BitVec 32 := Scalar.select v346 c1_i32_258 c4_i32_256
  let v348 : BitVec 32 := Scalar.remsi v345 v347
  let c0_i32_260 : BitVec 32 := 0#32
  let v350 : BitVec 1 := Scalar.cmpi .slt v348 c0_i32_260
  let c0_i32_261 : BitVec 32 := 0#32
  let v351 : BitVec 1 := Scalar.cmpi .slt v347 c0_i32_261
  let v352 : BitVec 1 := Scalar.xori v350 v351
  let c0_i32_259 : BitVec 32 := 0#32
  let v349 : BitVec 1 := Scalar.cmpi .ne v348 c0_i32_259
  let v353 : BitVec 1 := Scalar.andi v352 v349
  let v354 : BitVec 32 := Scalar.addi v348 v347
  let v355 : BitVec 32 := Scalar.select v353 v354 v348
  let c512_i32_268 : BitVec 32 := 512#32
  let v362 : BitVec 32 := Scalar.muli v355 c512_i32_268
  let c0_i32_271 : BitVec 32 := 0#32
  ![v362.toNat, 0]
-- ==== ReferenceIdeal.lean ====
abbrev S2048x2048 : Shape := ⟨2, ![2048, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Proto.lean ====
/-
# The exchange protocol of the kernel

Four devices, `c + k` read modulo four. Device `c` holds a row block of `x` and all of `w`. It computes one
512 × 512 block for every device; the block for device `c + (j + 1)` goes through slot `j` (`j = 0, 1, 2`): it is
written into slot `j` of `c`'s send buffer, copied into slot `j` of that device's receive buffer, and copied there
into the result rows of `c`.

* The barrier cell of `c` takes one unit from each other device. The unit of device `c + (j + 1)` hands over slot
  `j` of THAT device's receive buffer, which is the slot that `c`'s copy `j` fills, and that its receive cell is open.
* The send cell `j` of `c` takes the copy's credit at departure and hands slot `j` of the send buffer back.
* The receive cell `j` of `c` takes the credit of the copy that device `c + (3 - j)` sends, and hands over slot `j` of
  `c`'s receive buffer, holding that device's block.

Levels: a barrier cell 1, a receive cell 2, every other cell 0; each wait is below all that the waiter still owes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's own copy of the rounds algebra: a duty is the slot's number. -/
abbrev UX : Type := URounds (GSem nD τ sig) (Fin 3)
/-- The pipeline library's copy, the exchange's, and the counters of the device's own transfers. -/
abbrev UU : Type := UR sig nD τ × (UX × Counters)

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := (Emb.inl : Emb UX (UX × Counters)).trans embR

instance ER_landsIn : (ER (F := F)).LandsIn (upEmb : UEmb _ 𝕄) := by
  unfold ER; infer_instance

variable (m : (ℓ : Loc nD τ sig) → Buf (Elt F) ℓ)

/-! ## Places around the ring -/

set_option backward.proofsInPublic true in
/-- The device `k` places on from `c`. -/
def sh (k : ℕ) (c : Dev nD) : Dev nD := ⟨(c.val + k) % 4, Nat.mod_lt _ (by decide)⟩

/-- The device that slot `j` of `c` is sent to. -/
abbrev dstOf (j : Fin 3) (c : Dev nD) : Dev nD := sh (j.val + 1) c
/-- The device whose copy fills slot `j` of `c`. -/
abbrev srcOf (j : Fin 3) (c : Dev nD) : Dev nD := sh (3 - j.val) c

theorem src_dst : ∀ (j : Fin 3) (c : Dev nD), srcOf j (dstOf j c) = c := by decide
theorem dst_src : ∀ (j : Fin 3) (c : Dev nD), dstOf j (srcOf j c) = c := by decide

/-- Going to a slot's target is a permutation of the devices. -/
def around (j : Fin 3) : Dev nD ≃ Dev nD := ⟨dstOf j, srcOf j, src_dst j, dst_src j⟩

theorem dev1_eq : ∀ c : Dev nD, (⟨k0_dev1 c, k0_dev1_lt c⟩ : Dev nD) = sh 1 c := by decide +kernel
theorem dev2_eq : ∀ c : Dev nD, (⟨k0_dev2 c, k0_dev2_lt c⟩ : Dev nD) = sh 2 c := by decide +kernel
theorem dev3_eq : ∀ c : Dev nD, (⟨k0_dev3 c, k0_dev3_lt c⟩ : Dev nD) = sh 3 c := by decide +kernel
theorem dev4_eq : ∀ c : Dev nD, (⟨k0_dev4 c, k0_dev4_lt c⟩ : Dev nD) = dstOf 1 c := by decide +kernel
theorem dev5_eq : ∀ c : Dev nD, (⟨k0_dev5 c, k0_dev5_lt c⟩ : Dev nD) = dstOf 0 c := by decide +kernel
theorem dev6_eq : ∀ c : Dev nD, (⟨k0_dev6 c, k0_dev6_lt c⟩ : Dev nD) = dstOf 2 c := by decide +kernel

/-! ## The slots of the two exchange buffers, and the cells -/

theorem slot_inb : ∀ j : Fin 3, ∀ a, (![j.val, 0, 0] : Fin 3 → ℕ) a + S1x512x512.size a ≤ S3x512x512.size a := by decide

/-- Slot `j` of the send buffer. -/
abbrev sndM (j : Fin 3) : Memref sig .tc .vmem S512x512 .bf16 :=
  ((Memref.whole cc0_scratch2).slice (Rect.unit (s := S3x512x512) ![j.val, 0, 0] S1x512x512.size (slot_inb j)) (fun _ => rfl)).squeeze S512x512 squeezes_S1x512x512_S512x512
/-- Slot `j` of the receive buffer. -/
abbrev rcvM (j : Fin 3) : Memref sig .tc .vmem S512x512 .bf16 :=
  ((Memref.whole cc0_scratch3).slice (Rect.unit (s := S3x512x512) ![j.val, 0, 0] S1x512x512.size (slot_inb j)) (fun _ => rfl)).squeeze S512x512 squeezes_S1x512x512_S512x512

/-- The runtime's barrier semaphore; the send and the receive semaphore of slot `j`. -/
abbrev barS : Sem sig := (SemArray.scalar (sig.barrier 0 rfl) : Sems sig S_).sem
def sndS (j : Fin 3) : DmaSem sig := (![5, 6, 7] : Fin 3 → DmaSem sig) j
def rcvS (j : Fin 3) : DmaSem sig := (![8, 9, 10] : Fin 3 → DmaSem sig) j

abbrev barCell (c : Dev nD) : GSem nD τ sig := ((c : Thread nD τ), .reg barS)
abbrev sndCell (c : Dev nD) (j : Fin 3) : GSem nD τ sig := ((c : Thread nD τ), .dma (sndS j))
abbrev rcvCell (c : Dev nD) (j : Fin 3) : GSem nD τ sig := ((c : Thread nD τ), .dma (rcvS j))

/-- The seven semaphores of a device that take part: the barrier's, a send and a receive semaphore per slot. -/
abbrev Site : Type := Unit ⊕ (Fin 3 ⊕ Fin 3)
def siteSem : Site → SemLoc sig
  | .inl _ => .reg barS
  | .inr (.inl j) => .dma (sndS j)
  | .inr (.inr j) => .dma (rcvS j)
/-- The site a semaphore is, if any. -/
def siteOf : SemLoc sig → Option Site
  | .reg s => if s = barS then some (.inl ()) else none
  | .dma q =>
    if q = sndS 0 then some (.inr (.inl 0)) else if q = sndS 1 then some (.inr (.inl 1)) else if q = sndS 2 then some (.inr (.inl 2))
    else if q = rcvS 0 then some (.inr (.inr 0)) else if q = rcvS 1 then some (.inr (.inr 1)) else if q = rcvS 2 then some (.inr (.inr 2))
    else none

theorem siteOf_bar : siteOf (.reg barS) = some (.inl ()) := by decide
theorem siteOf_snd : ∀ j, siteOf (.dma (sndS j)) = some (.inr (.inl j)) := by decide
theorem siteOf_rcv : ∀ j, siteOf (.dma (rcvS j)) = some (.inr (.inr j)) := by decide
theorem siteOf_siteSem : ∀ s, siteOf (siteSem s) = some s
  | .inl _ => siteOf_bar
  | .inr (.inl j) => siteOf_snd j
  | .inr (.inr j) => siteOf_rcv j
/-- The semaphores of the device's own copies (numbers 0 to 4) take no part. -/
theorem siteOf_local : ∀ q : DmaSem sig, q.val < 5 → siteOf (.dma q) = none := by decide

theorem siteSem_injective : Function.Injective siteSem := fun a b h => by
  have := congrArg siteOf h; rw [siteOf_siteSem, siteOf_siteSem] at this; exact Option.some.inj this

/-- The cell of site `s` on device `c`. -/
abbrev kcell (x : Dev nD × Site) : GSem nD τ sig := ((x.1 : Thread nD τ), siteSem x.2)

theorem kcell_injective : Function.Injective kcell := fun a b h => by
  have h1 : a.1 = b.1 := congrArg (fun g : GSem nD τ sig => g.1.1) h
  have h2 : a.2 = b.2 := siteSem_injective (congrArg Prod.snd h)
  exact Prod.ext h1 h2

/-- The credit of one slot's copy. -/
def N : ℕ := (rcvM 0).view.dmaCredit
theorem N_pos : 0 < N := View.dmaCredit_pos _ (by decide)
theorem credit_rcv (j : Fin 3) : (rcvM j).view.dmaCredit = N := rfl

/-! ## What the buffers hold -/

/-- Columns of `w` for the device `k` places on from `c`. -/
abbrev wcolM (c : Dev nD) (k : Fin 4) : Memref sig .tc .hbm S2048x512 .f32 :=
  (Memref.whole main_arg1).slice (Rect.unit (s := S2048x2048) (k0_off1 c (BitVec.ofNat 32 k.val)) S2048x512.size (k0_off1_inb c k)) (fun _ => rfl)

/-- Device `c`'s rows of `x`. -/
def xAt (c : Dev nD) : Vec F S512x2048 .f32 := m ((c : Thread nD τ).loc main_arg0)

theorem casts_wcol : S2048x512.ShapeCasts S1x2048x512 := by decide
theorem casts_block : S1x512x512.ShapeCasts S512x512 := by decide

/-- The columns of `w` for the device `k` places on, as the kernel loads them. -/
def wAt (c : Dev nD) (k : Fin 4) : Vec F S1x2048x512 .f32 :=
  shapeCast S1x2048x512 ((wcolM c k).view.read (Elt F) (m ((c : Thread nD τ).loc main_arg1))) casts_wcol

/-- The block that device `c` sends through slot `j`. -/
def sent (c : Dev nD) (j : Fin 3) : FVec F S512x512 .bf16 := k0_pay4 (xAt m c) (wAt m c j.succ)

/-- The block that device `c` keeps. -/
def kept (c : Dev nD) : FVec F S512x512 .f32 := shapeCast S512x512 (k0_pay6 (xAt m c) (wAt m c 0)) casts_block

/-! ## Slots as assertions -/

/-- Slot `j` of `c`'s send buffer, at contents `f`. -/
def sndPts (c : Dev nD) (j : Fin 3) (f : Buf (Elt F) ((sndM j).view.loc (c : Thread nD τ))) : sProp 𝕄 :=
  (sndM j).view.loc (c : Thread nD τ) ↦[(sndM j).view.set]{fullShare} f
/-- Slot `j` of `c`'s receive buffer, at contents `f`. -/
def rcvPts (c : Dev nD) (j : Fin 3) (f : Buf (Elt F) ((rcvM j).view.loc (c : Thread nD τ))) : sProp 𝕄 :=
  (rcvM j).view.loc (c : Thread nD τ) ↦[(rcvM j).view.set]{fullShare} f

omit [FloatOps F] in
instance sndPts_storable (c : Dev nD) (j : Fin 3) (f) : BI.Storable (upEmb : UEmb _ 𝕄) (sndPts (F := F) c j f) := by unfold sndPts; infer_instance
omit [FloatOps F] in
instance rcvPts_storable (c : Dev nD) (j : Fin 3) (f) : BI.Storable (upEmb : UEmb _ 𝕄) (rcvPts (F := F) c j f) := by unfold rcvPts; infer_instance

/-! ## The schedule -/

/-- The unit of device `c + (j + 1)` on `c`'s barrier cell. -/
def barPay (c : Dev nD) (j : Fin 3) : sProp 𝕄 :=
  iprop((∃ f, rcvPts (dstOf j c) j f) ∗ reached ER (rcvCell (dstOf j c) j) 0)
/-- The departure of slot `j` of `c`. -/
def sndPay (c : Dev nD) (j : Fin 3) : sProp 𝕄 := iprop(∃ f, sndPts c j f)
/-- The landing in slot `j` of `c`: the slot with the sender's block. -/
def rcvPay (c : Dev nD) (j : Fin 3) : sProp 𝕄 :=
  iprop(∃ f, ⌜(rcvM j).view.read (Elt F) f = sent m (srcOf j c) j⌝ ∗ rcvPts c j f)

/-- One round per cell: three duties of one unit on a barrier cell, one duty of the slot's credit on the others. -/
def sched : Rounds.Schedule (GSem nD τ sig) (Fin 3) 𝕄 where
  duties g r := if r = 0 ∧ g.1.2 = .tc then
      (match siteOf g.2 with
        | none => ∅
        | some (.inl _) => Finset.univ
        | some (.inr (.inl j)) => {j}
        | some (.inr (.inr j)) => {j})
    else ∅
  unitless _ := False
  amount g _ _ := match siteOf g.2 with
    | some (.inl _) => 1
    | _ => N
  payload g _ d := match siteOf g.2 with
    | none => iprop(emp)
    | some (.inl _) => barPay g.1.1 d
    | some (.inr (.inl j)) => sndPay g.1.1 j
    | some (.inr (.inr j)) => rcvPay m g.1.1 j
  amount_pos g _ _ _ := by
    split
    · exact Nat.one_pos
    · exact N_pos

instance sched_storable (g : GSem nD τ sig) (r : ℕ) (d : Fin 3) :
    BI.Storable (upEmb : UEmb _ 𝕄) ((sched (F := F) m).payload g r d) := by
  dsimp only [sched]
  unfold barPay sndPay rcvPay
  split <;> infer_instance

section Tables
variable (c : Dev nD) (j d : Fin 3)

theorem duties_bar : (sched (F := F) m).duties (barCell c) 0 = Finset.univ := by
  dsimp only [sched]; rw [if_pos ⟨rfl, rfl⟩, siteOf_bar]
theorem duties_snd : (sched (F := F) m).duties (sndCell c j) 0 = {j} := by
  dsimp only [sched]; rw [if_pos ⟨rfl, rfl⟩, siteOf_snd]
theorem duties_rcv : (sched (F := F) m).duties (rcvCell c j) 0 = {j} := by
  dsimp only [sched]; rw [if_pos ⟨rfl, rfl⟩, siteOf_rcv]
theorem duties_later (g : GSem nD τ sig) : ∀ r, 1 ≤ r → (sched (F := F) m).duties g r = ∅ :=
  fun r hr => by dsimp only [sched]; exact if_neg fun h => absurd h.1 (by omega)

theorem amount_bar : (sched (F := F) m).amount (barCell c) 0 d = 1 := by dsimp only [sched]; rw [siteOf_bar]
theorem amount_snd : (sched (F := F) m).amount (sndCell c j) 0 d = N := by dsimp only [sched]; rw [siteOf_snd]
theorem amount_rcv : (sched (F := F) m).amount (rcvCell c j) 0 d = N := by dsimp only [sched]; rw [siteOf_rcv]

theorem payload_bar : (sched (F := F) m).payload (barCell c) 0 d = barPay c d := by dsimp only [sched]; rw [siteOf_bar]
theorem payload_snd : (sched (F := F) m).payload (sndCell c j) 0 d = sndPay c j := by dsimp only [sched]; rw [siteOf_snd]
theorem payload_rcv : (sched (F := F) m).payload (rcvCell c j) 0 d = rcvPay m c j := by dsimp only [sched]; rw [siteOf_rcv]

theorem expect_bar : (sched (F := F) m).expect (barCell c) 0 = 3 := by
  unfold Schedule.expect Schedule.amountOf
  rw [duties_bar, Finset.sum_congr rfl fun d _ => amount_bar m c d]; rfl
theorem expect_snd : (sched (F := F) m).expect (sndCell c j) 0 = N := by
  unfold Schedule.expect Schedule.amountOf; rw [duties_snd, Finset.sum_singleton, amount_snd]
theorem expect_rcv : (sched (F := F) m).expect (rcvCell c j) 0 = N := by
  unfold Schedule.expect Schedule.amountOf; rw [duties_rcv, Finset.sum_singleton, amount_rcv]

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- What the barrier wait hands over: the three slots that `c`'s copies fill. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_fin3, payload_bar, payload_bar, payload_bar]
theorem rest_snd : bigSep ((sched (F := F) m).duties (sndCell c j) 0 \ ∅) (fun d => (sched (F := F) m).payload (sndCell c j) 0 d)
    = sndPay c j := by
  rw [Finset.sdiff_empty, duties_snd, bigSep_singleton, payload_snd]
theorem rest_rcv : bigSep ((sched (F := F) m).duties (rcvCell c j) 0 \ ∅) (fun d => (sched (F := F) m).payload (rcvCell c j) 0 d)
    = rcvPay m c j := by
  rw [Finset.sdiff_empty, duties_rcv, bigSep_singleton, payload_rcv]

end Tables

/-! ## What a device owes, and the levels -/

/-- The credit owed to the target of slot `j`; the unit owed to the barrier of the device `k` places on. -/
abbrev owedCopy (c : Dev nD) (j : Fin 3) : CellTallies nD τ sig Unit := tallyAt (rcvCell (dstOf j c) j) () N
abbrev owedUnit (c : Dev nD) (k : ℕ) : CellTallies nD τ sig Unit := tallyAt (barCell (sh k c)) () 1

/-- What is left before the copy of slot 2, of slot 0 and of slot 1 (the program's order is 1, 0, 2), -/
def D₂ (c : Dev nD) : CellTallies nD τ sig Unit := owedCopy c 2
def D₀ (c : Dev nD) : CellTallies nD τ sig Unit := D₂ c + owedCopy c 0
def D₁ (c : Dev nD) : CellTallies nD τ sig Unit := D₀ c + owedCopy c 1
/-- and before the third, the second and the first signal. -/
def E₃ (c : Dev nD) : CellTallies nD τ sig Unit := D₁ c + owedUnit c 3
def E₂ (c : Dev nD) : CellTallies nD τ sig Unit := E₃ c + owedUnit c 2
def E₁ (c : Dev nD) : CellTallies nD τ sig Unit := E₂ c + owedUnit c 1

def L (g : GSem nD τ sig) : Finset Unit := if g.1.2 = .tc then {()} else ∅
def lv (g : GSem nD τ sig) (_ : Unit) : ℕ := match siteOf g.2 with
  | some (.inl _) => 1
  | some (.inr (.inr _)) => 2
  | _ => 0

theorem mem_L {g : GSem nD τ sig} (h : g.1.2 = .tc) (u : Unit) : u ∈ L g := by
  unfold L; rw [if_pos h]; exact Finset.mem_singleton_self _
theorem L_of_ne (g : GSem nD τ sig) (h : g.1.2 ≠ .tc) : L g = ∅ := if_neg h
theorem lv_bar (c : Dev nD) : lv (barCell c) () = 1 := by unfold lv; rw [siteOf_bar]
theorem lv_rcv (c : Dev nD) (j : Fin 3) : lv (rcvCell c j) () = 2 := by unfold lv; rw [siteOf_rcv]

/-- Everything in `O` is owed to a TensorCore's cell above level `n`. -/
def Over (n : ℕ) (O : CellTallies nD τ sig Unit) : Prop := ∀ g u, 0 < O g u → g.1.2 = .tc ∧ n < lv g u

theorem Over.add {n : ℕ} {O P : CellTallies nD τ sig Unit} (h : Over n O) (h' : Over n P) : Over n (O + P) := fun g u hg => by
  rw [Pi.add_apply, Finsupp.add_apply] at hg
  rcases Nat.eq_zero_or_pos (O g u) with h0 | h0
  · exact h' g u (by omega)
  · exact h g u h0
theorem Over.tally {n k : ℕ} {g : GSem nD τ sig} (hg : g.1.2 = .tc) (h : n < lv g ()) : Over n (tallyAt g () k) := fun g' u hp => by
  rw [tallyAt_apply] at hp
  by_cases h' : g' = g ∧ u = ()
  · rw [h'.1]; exact ⟨hg, h⟩
  · rw [if_neg h'] at hp; exact absurd hp (Nat.lt_irrefl 0)

theorem over_copy {n : ℕ} (hn : n < 2) (c : Dev nD) (j : Fin 3) : Over n (owedCopy c j) := Over.tally rfl (by rw [lv_rcv]; exact hn)
theorem over_unit {n : ℕ} (hn : n < 1) (c : Dev nD) (k : ℕ) : Over n (owedUnit c k) := Over.tally rfl (by rw [lv_bar]; exact hn)
theorem over_D₂ {n : ℕ} (hn : n < 2) (c : Dev nD) : Over n (D₂ c) := over_copy hn c 2
theorem over_D₀ {n : ℕ} (hn : n < 2) (c : Dev nD) : Over n (D₀ c) := (over_D₂ hn c).add (over_copy hn c 0)
theorem over_D₁ {n : ℕ} (hn : n < 2) (c : Dev nD) : Over n (D₁ c) := (over_D₀ hn c).add (over_copy hn c 1)
theorem over_E₁ {n : ℕ} (hn : n < 1) (c : Dev nD) : Over n (E₁ c) :=
  (((over_D₁ (Nat.lt_succ_of_lt hn) c).add (over_unit hn c 3)).add (over_unit hn c 2)).add (over_unit hn c 1)

omit [FloatOps F] in
/-- A wait on a cell of level at most `n` is allowed while everything owed is above `n`. -/
theorem mayWait_of_over (c : Dev nD) (sm : SemLoc sig) (n : ℕ) (hl : lv ((c : Thread nD τ), sm) () ≤ n) {O : CellTallies nD τ sig Unit} (hO : Over n O) :
    (levAts L lv : sProp 𝕄) ⊢ MayWait (c : Thread nD τ) sm () O :=
  MayOwe.of_cut (L := L) (lev := lv) n
    (fun p hp => by rw [Finset.mem_singleton.mp hp]; exact mem_L (g := ((c : Thread nD τ), sm)) rfl ())
    (fun g u hg => mem_L (hO g u hg).1 u)
    (fun p hp => by rw [Finset.mem_singleton.mp hp]; exact hl)
    (fun g u hg => (hO g u hg).2)

omit [FloatOps F] in
/-- A device's own copies may be waited for whatever it owes. -/
theorem mayWait_local (c : Dev nD) {O : CellTallies nD τ sig Unit} (hO : Over 0 O) (q : DmaSem sig) (hq : q.val < 5) :
    (levAts L lv : sProp 𝕄) ⊢ MayWait (c : Thread nD τ) (.dma q) () O :=
  mayWait_of_over c _ 0 (by unfold lv; rw [siteOf_local q hq]) hO

end Cert.Exchange

end
-- ==== Proof.Steps.lean ====
/-
# The exchange's statements, one rule each

For a symbolic device and a symbolic slot: the signal that hands a receive slot to its filler, the barrier wait, the
copy of a slot, the wait for its departure, the wait for the landing in a slot; and a cell closed at the end.
-/
module

public import proofs.«01_k».proof.Proof.Proto

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Every cell's invariant, at the names `K`, and that every cell has reached its round. -/
def records (K : Dev nD × Site → ℕ) : sProp 𝕄 :=
  iprop((bigSep Finset.univ fun x : Dev nD × Site => cellInv ER (sched m) (K x) (kcell x))
    ∗ bigSep Finset.univ fun x : Dev nD × Site => reached ER (kcell x) 0)

instance records_persistent (K : Dev nD × Site → ℕ) : BI.Persistent (records m K) := by unfold records; infer_instance

variable (K : Dev nD × Site → ℕ)

theorem records_inv (x : Dev nD × Site) : records m K ⊢ cellInv ER (sched m) (K x) (kcell x) := by
  have h : (bigSep Finset.univ fun x : Dev nD × Site => (cellInv ER (sched m) (K x) (kcell x) : sProp 𝕄)) ⊢ cellInv ER (sched m) (K x) (kcell x) :=
    bigSep_elim (Finset.mem_univ x)
  unfold records
  iintro ⟨H, -⟩
  iapply h; iexact H
theorem records_reached (x : Dev nD × Site) : records m K ⊢ reached ER (kcell x) 0 := by
  have h : (bigSep Finset.univ fun x : Dev nD × Site => (reached ER (kcell x) 0 : sProp 𝕄)) ⊢ reached ER (kcell x) 0 :=
    bigSep_elim (Finset.mem_univ x)
  unfold records
  iintro ⟨-, H⟩
  iapply h; iexact H

/-- The signal to the device `e` places on, which gives it slot `j` of `c`'s receive buffer. -/
theorem wp_unit {α : Type} {Q : α → sProp 𝕄} {k : PUnit → Prog (TpuEff nD τ sig (Elt F) Λ₀ .tc) α}
    (c n : Dev nD) (e : ℕ) (hn : n = sh e c) (j : Fin 3) (hj : dstOf j (sh e c) = c)
    (O : CellTallies nD τ sig Unit) (W : Waits sig Unit) :
    iprop(records m K ∗ owes (c : Thread nD τ) (O + owedUnit c e) W ∗ dutyTok ER (barCell (sh e c)) 0 j ∗ (∃ f, rcvPts c j f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toInt) k) Q) := by
  subst hn
  iintro ⟨#HR, HO, Ht, Hf⟩
  iapply (Rounds.wp_signal 𝒱₀ ER (sched m) (c : Thread nD τ) none (dst := (sh e c : Thread nD τ)) (κ := K (sh e c, .inl ()))
      (d := j) (by rw [duties_bar]; exact Finset.mem_univ _) ((amount_bar m (sh e c) j).trans (by decide)) () O rfl)
  isplitr; · iapply (records_inv m K (sh e c, .inl ())); iexact HR
  isplitl [HO]; · iexact HO
  isplitl [Ht]; · iexact Ht
  isplitl [Hf]
  · rw [payload_bar]; unfold barPay; rw [hj]
    isplitl [Hf]; · iexact Hf
    iapply (records_reached m K (c, .inr (.inr j))); iexact HR
  · iapply (records_reached m K (sh e c, .inl ())); iexact HR

/-- The barrier wait: the three slots that `c`'s copies fill. -/
theorem wp_meet {α : Type} {Q : α → sProp 𝕄} {k : PUnit → Prog (TpuEff nD τ sig (Elt F) Λ₀ .tc) α}
    (c : Dev nD) (W : Waits sig Unit) :
    iprop(records m K ∗ levAts L lv ∗ cred (tallyAt (barCell c) () 3) ∗ owes (c : Thread nD τ) (D₁ c) W ∗ atPos ER (barCell c) 0 ∅ 0)
      ⊢ iprop(((owes (c : Thread nD τ) (D₁ c) (insert (SemLoc.reg barS, ()) W) ∗ atPos ER (barCell c) (0 + 1) ∅ 0
              ∗ (∃ f, rcvPts (dstOf 0 c) 0 f) ∗ (∃ f, rcvPts (dstOf 1 c) 1 f) ∗ (∃ f, rcvPts (dstOf 2 c) 2 f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (3#32 : BitVec 32).toInt) k) Q) := by
  iintro ⟨#HR, #Hlev, Hc, HO, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := D₁ c) (W := W) (R := 0) (m := 0) (T := ∅)
      (by rw [expect_bar]; decide)) $$ [Hc HO Hat]
  · isplitr; · iapply (records_inv m K (c, .inl ())); iexact HR
    isplitl [Hc]; · iexact Hc
    isplitl [HO]; · iexact HO
    isplitr
    · iapply (mayWait_of_over c (.reg barS) 1 (le_of_eq (lv_bar c)) (over_D₁ (by decide) c)); iexact Hlev
    iexact Hat
  iintro ⟨HO, Hat, -, Hp⟩
  ihave Hp := (Entails.of_eq (rest_bar m c)) $$ Hp
  unfold barPay
  icases Hp with ⟨⟨H0, -⟩, ⟨H1, -⟩, ⟨H2, -⟩⟩
  iapply Hk
  isplitl [HO]; · iexact HO
  isplitl [Hat]; · iexact Hat
  isplitl [H0]; · iexact H0
  isplitl [H1]; · iexact H1
  iexact H2

/-- Slot `j` filled by a copy whose source reads `v` reads `v`. -/
theorem read_landing (c : Dev nD) (j : Fin 3) (fd : Buf (Elt F) ((rcvM j).view.loc (c : Thread nD τ))) (v : Vec F S512x512 .bf16) :
    (rcvM j).view.read (Elt F) ((rcvM j).view.write (Elt F) fd v Finset.univ) = v := by
  exact View.read_write_univ _ _

/-- The copy of slot `j`, whose block is the one to be sent. -/
theorem wp_copy {α : Type} {Q : α → sProp 𝕄} {k : PUnit → Prog (TpuEff nD τ sig (Elt F) Λ₀ .tc) α}
    (c n : Dev nD) (j : Fin 3) (hn : n = dstOf j c) (qs qr : DmaSem sig) (hqs : qs = sndS j) (hqr : qr = rcvS j)
    {hsc : (rcvM j : Memref sig (Dev.tc n : Thread nD τ).2.kind .vmem S512x512 .bf16).view.ref.isScScratch = false}
    {hsrc : (sndM j).view.WordExact} {hdst : (rcvM j).view.WordExact}
    {hsem : DmaTarget.Typed .vmem (.dma qr) (.remote (Dev.tc n : Thread nD τ) (rcvM j : Memref sig .tc .vmem S512x512 .bf16) (.dma qs) hsc)}
    (O : CellTallies nD τ sig Unit) (W : Waits sig Unit) (fs : Buf (Elt F) ((sndM j).view.loc (c : Thread nD τ)))
    (hfs : (sndM j).view.read (Elt F) fs = sent m c j) :
    iprop(records m K ∗ sndPts c j fs ∗ (∃ f, rcvPts (dstOf j c) j f) ∗ owes (c : Thread nD τ) (O + owedCopy c j) W
        ∗ dutyTok ER (sndCell c j) 0 j ∗ dutyTok ER (rcvCell (dstOf j c) j) 0 j)
      ⊢ iprop(((cred (tallyAt (sndCell c j) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sndM j) (.remote (Dev.tc n : Thread nD τ) (rcvM j) (.dma qs) hsc) (.dma qr) hsrc hdst hsem) k) Q) := by
  subst hn; subst hqs; subst hqr
  iintro ⟨#HR, Hs, ⟨%fd, Hd⟩, HO, Hts, Htr⟩
  unfold sndPts rcvPts
  iapply (Rounds.wp_send_pointsTo 𝒱₀ ER (sched m) (c : Thread nD τ) none (κ₁ := K (c, .inr (.inl j))) (κ₂ := K (dstOf j c, .inr (.inr j)))
    (r₁ := 0) (r₂ := 0) (d₁ := j) (d₂ := j) (fd := fd)
    (by rw [duties_snd]; exact Finset.mem_singleton_self _) (by rw [duties_rcv]; exact Finset.mem_singleton_self _)
    () () N rfl (amount_snd m c j j) (amount_rcv m (dstOf j c) j j) O rfl (W := W)
    (by rw [payload_snd]; unfold sndPay sndPts; iintro H; iexists fs; iexact H)
    (by
      rw [payload_rcv]; unfold rcvPay rcvPts
      iintro H; iexists _
      isplitr
      · ipureintro; rw [src_dst, ← hfs]; exact read_landing (dstOf j c) j fd _
      iexact H))
  isplitr; · iapply (records_inv m K (c, .inr (.inl j))); iexact HR
  isplitr; · iapply (records_inv m K (dstOf j c, .inr (.inr j))); iexact HR
  isplitl [Hs]; · iexact Hs
  isplitl [Hd]; · iexact Hd
  isplitl [HO]; · iexact HO
  isplitl [Hts]; · iexact Hts
  isplitr; · iapply (records_reached m K (c, .inr (.inl j))); iexact HR
  isplitl [Htr]; · iexact Htr
  iapply (records_reached m K (dstOf j c, .inr (.inr j))); iexact HR

/-- The wait for the departure of slot `j`: the send slot back. -/
theorem wp_departed {α : Type} {Q : α → sProp 𝕄} {k : PUnit → Prog (TpuEff nD τ sig (Elt F) Λ₀ .tc) α}
    (c : Dev nD) (j : Fin 3) (q : DmaSem sig) (hq : q = sndS j) {b b' : Memref sig .tc .vmem S512x512 .bf16}
    {h : b.view.WordExact} {h' : b'.view.WordExact} (hb : b'.view.dmaCredit = N) (W : Waits sig Unit) :
    iprop(records m K ∗ cred (tallyAt (sndCell c j) () N) ∗ owes (c : Thread nD τ) 0 W ∗ atPos ER (sndCell c j) 0 ∅ 0)
      ⊢ iprop(((owes (c : Thread nD τ) 0 (insert (SemLoc.dma (sndS j), ()) W) ∗ atPos ER (sndCell c j) (0 + 1) ∅ 0 ∗ (∃ f, sndPts c j f))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q b b' h h') k) Q) := by
  subst hq
  iintro ⟨#HR, Hc, HO, Hat⟩ Hk
  iapply (Rounds.wp_wait_rest_token 𝒱₀ ER (sched m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_snd]; exact hb)) $$ [Hc HO Hat]
  · isplitr; · iapply (records_inv m K (c, .inr (.inl j))); iexact HR
    isplitl [Hc]; · rw [hb]; iexact Hc
    isplitl [HO]; · iexact HO
    isplitr; · rw [MayWait_zero]; iempintro
    iexact Hat
  iintro ⟨HO, Hat, -, Hp⟩
  ihave Hp := (Entails.of_eq (rest_snd m c j)) $$ Hp
  iapply Hk
  isplitl [HO]; · iexact HO
  isplitl [Hat]; · iexact Hat
  unfold sndPay; iexact Hp

/-- The wait for the landing in slot `j`: the receive slot, with the sender's block. -/
theorem wp_landed {α : Type} {Q : α → sProp 𝕄} {k : PUnit → Prog (TpuEff nD τ sig (Elt F) Λ₀ .tc) α}
    (c : Dev nD) (j : Fin 3) (q : DmaSem sig) (hq : q = rcvS j) {b b' : Memref sig .tc .vmem S512x512 .bf16}
    {h : b.view.WordExact} {h' : b'.view.WordExact} (hb : b'.view.dmaCredit = N) (W : Waits sig Unit) :
    iprop(records m K ∗ cred (tallyAt (rcvCell c j) () N) ∗ owes (c : Thread nD τ) 0 W ∗ atPos ER (rcvCell c j) 0 ∅ 0)
      ⊢ iprop(((owes (c : Thread nD τ) 0 (insert (SemLoc.dma (rcvS j), ()) W) ∗ atPos ER (rcvCell c j) (0 + 1) ∅ 0
              ∗ (∃ f, ⌜(rcvM j).view.read (Elt F) f = sent m (srcOf j c) j⌝ ∗ rcvPts c j f))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q b b' h h') k) Q) := by
  subst hq
  iintro ⟨#HR, Hc, HO, Hat⟩ Hk
  iapply (Rounds.wp_wait_rest_token 𝒱₀ ER (sched m) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_rcv]; exact hb)) $$ [Hc HO Hat]
  · isplitr; · iapply (records_inv m K (c, .inr (.inr j))); iexact HR
    isplitl [Hc]; · rw [hb]; iexact Hc
    isplitl [HO]; · iexact HO
    isplitr; · rw [MayWait_zero]; iempintro
    iexact Hat
  iintro ⟨HO, Hat, -, Hp⟩
  ihave Hp := (Entails.of_eq (rest_rcv m c j)) $$ Hp
  iapply Hk
  isplitl [HO]; · iexact HO
  isplitl [Hat]; · iexact Hat
  unfold rcvPay; iexact Hp

/-- A cell past its round closes: its counter, at zero, is the device's again. -/
theorem close_site (x : Dev nD × Site) :
    iprop(records m K ∗ atPos ER (kcell x) (0 + 1) ∅ 0) ⊢ |={Set.univ}=> semVal (kcell x) 0 := by
  iintro ⟨#HR, Hat⟩
  iapply (Rounds.cell_close ER (sched m) (Set.mem_univ (K x)) (fun h => h) (R := 0 + 1) (duties_later m (kcell x)))
  isplitr; · iapply (records_inv m K x); iexact HR
  iexact Hat

end Cert.Exchange

end
-- ==== Proof.Slots.lean ====
/-
# A device's buffers, in the pieces the body works on

The halves of the two staging buffers, the four row blocks of the result, and what a load, a store or a copy through
one of these pieces reads or leaves.
-/
module

public import proofs.«01_k».proof.Proof.Steps
public import Idealize.ShloMosaic.Lib.Pipeline.Value
public import Idealize.ShloMosaic.Lib.VecWindow

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The pieces -/

/-- The rows of `c`'s result that `c` computes itself, -/
abbrev ownM (c : Dev nD) : Memref sig .tc .hbm S512x512 .f32 :=
  (Memref.whole main_v1).slice (Rect.unit (s := S2048x512) (k0_off2 c) S512x512.size (k0_off2_inb c)) (fun _ => rfl)
/-- and those that arrive through slot `j`. -/
abbrev gotM (c : Dev nD) (j : Fin 3) : Memref sig .tc .hbm S512x512 .f32 :=
  (Memref.whole main_v1).slice (Rect.unit (s := S2048x512) (k0_off3 c (BitVec.ofNat 32 (1 + j.val))) S512x512.size (k0_off3_inb c j)) (fun _ => rfl)

theorem half_w_inb : ∀ b : Fin 2, ∀ a, (![b.val, 0, 0] : Fin 3 → ℕ) a + S1x2048x512.size a ≤ S2x2048x512.size a := by decide
theorem half_s_inb : ∀ b : Fin 2, ∀ a, (![b.val, 0, 0] : Fin 3 → ℕ) a + S1x512x512.size a ≤ S2x512x512.size a := by decide
/-- Half `b` of the buffer for columns of `w`. -/
abbrev wM (b : Fin 2) : Memref sig .tc .vmem S2048x512 .f32 :=
  ((Memref.whole cc0_scratch1).slice (Rect.unit (s := S2x2048x512) ![b.val, 0, 0] S1x2048x512.size (half_w_inb b)) (fun _ => rfl)).squeeze S2048x512 squeezes_S1x2048x512_S2048x512
/-- Half `b` of the buffer for result blocks. -/
abbrev stM (b : Fin 2) : Memref sig .tc .vmem S512x512 .f32 :=
  ((Memref.whole cc0_scratch4).slice (Rect.unit (s := S2x512x512) ![b.val, 0, 0] S1x512x512.size (half_s_inb b)) (fun _ => rfl)).squeeze S512x512 squeezes_S1x512x512_S512x512

/-- The block that arrives at `c` through slot `j`, widened again. -/
def got (c : Dev nD) (j : Fin 3) : FVec F S512x512 .f32 := extf .f32 (sent m (srcOf j c) j) bitsLt_bf16_f32

/-! ## What is read and what is left -/

/-- After pieces of which the last covers a view, the view reads that piece. -/
theorem read_covered {κ : Kind} {sp : Space} {s : Shape} {e : EltTy} (v : View sig κ sp s e) (f : v.ty.Contents (Elt F)) (w : s.Idx → Elt F e)
    (R : List (View.Piece (Elt F) s e)) : v.read (Elt F) (v.writes (Elt F) f (⟨Rect.whole s, w⟩ :: R)) = w := by
  funext x
  have h := View.read_writes_cons_emb v f (Rect.whole s) w R x
  rwa [Rect.emb_whole_apply] at h

/-- The load of all of `x` from its scratch buffer, after `x` was copied there. -/
theorem load_x (f0) (x : Vec F S512x2048 .f32) (inb) :
    (Memref.whole cc0_scratch0).view.readAt (Elt F) (Rect.unit (s := S512x2048) ![0, 0] S512x2048.size inb).toLoadRect
      ((Memref.whole cc0_scratch0).view.write (Elt F) f0 x Finset.univ) = x := by
  exact (View.readAt_full (s := S512x2048) _ _ inb).trans (View.read_write_univ _ _)

/-- The load of a half of the columns' buffer, after columns were copied there. -/
theorem load_w (b : Fin 2) (f) (y : Vec F S2048x512 .f32) (R : List (View.Piece (Elt F) S2048x512 .f32)) :
    (Memref.whole cc0_scratch1).view.readAt (Elt F) (Rect.unit (s := S2x2048x512) ![b.val, 0, 0] S1x2048x512.size (half_w_inb b)).toLoadRect
      ((wM b).view.writes (Elt F) f (⟨Rect.whole S2048x512, y⟩ :: R)) = shapeCast S1x2048x512 y casts_wcol := by
  have h := read_covered (wM b).view f y R
  rw [Memref.read_squeeze_slice (Memref.whole cc0_scratch1) _ _ _ shapeCasts_S1x2048x512_S2048x512] at h
  have h' := congrArg (fun z => shapeCast S1x2048x512 z casts_wcol) h
  dsimp only at h'
  rwa [shapeCast_shapeCast] at h'

/-- The stored block read back through the squeezed slot: the send buffer's, -/
theorem stored_snd (j : Fin 3) (f) (y : Vec F S1x512x512 .bf16) :
    (sndM j).view.read (Elt F) (((Memref.whole cc0_scratch2).access (Rect.unit (s := S3x512x512) ![j.val, 0, 0] S1x512x512.size (slot_inb j))).write (Elt F) f y Finset.univ)
      = shapeCast S512x512 y casts_block := by
  rw [Memref.read_squeeze_slice (Memref.whole cc0_scratch2) _ _ _ casts_block]
  exact congrArg (fun z => shapeCast S512x512 z casts_block) (View.read_write_univ _ _)
/-- and the result buffer's. -/
theorem stored_st (b : Fin 2) (f) (y : Vec F S1x512x512 .f32) :
    (stM b).view.read (Elt F) (((Memref.whole cc0_scratch4).access (Rect.unit (s := S2x512x512) ![b.val, 0, 0] S1x512x512.size (half_s_inb b))).write (Elt F) f y Finset.univ)
      = shapeCast S512x512 y casts_block := by
  rw [Memref.read_squeeze_slice (Memref.whole cc0_scratch4) _ _ _ casts_block]
  exact congrArg (fun z => shapeCast S512x512 z casts_block) (View.read_write_univ _ _)

/-- A block loaded from a receive slot, widened, is the block that arrived, widened. -/
theorem widened (c : Dev nD) (j : Fin 3) (r) (h : (rcvM j).view.read (Elt F) r = sent m (srcOf j c) j) :
    k0_pay7 ((Memref.whole cc0_scratch3).view.readAt (Elt F) (Rect.unit (s := S3x512x512) ![j.val, 0, 0] S1x512x512.size (slot_inb j)).toLoadRect r) = got m c j := by
  unfold got; rw [← h]; rfl

/-- The three spellings of the block to be sent, and of the widened block, are one. -/
theorem pay2_cast (x : Vec F S512x2048 .f32) (w : Vec F S1x2048x512 .f32) : shapeCast S512x512 (k0_pay2 x w) casts_block = k0_pay4 x w := shapeCast_shapeCast (k0_pay4 x w) shapeCasts_S512x512_S1x512x512 casts_block
theorem pay3_cast (x : Vec F S512x2048 .f32) (w : Vec F S1x2048x512 .f32) : shapeCast S512x512 (k0_pay3 x w) casts_block = k0_pay4 x w := shapeCast_shapeCast (k0_pay4 x w) shapeCasts_S512x512_S1x512x512 casts_block
theorem pay5_cast (y : FVec F S512x512 .bf16) : shapeCast S512x512 (k0_pay5 y) casts_block = y := shapeCast_shapeCast y shapeCasts_S512x512_S1x512x512 casts_block
theorem pay8_cast (y : FVec F S512x512 .f32) : shapeCast S512x512 (k0_pay8 y) casts_block = y := shapeCast_shapeCast y shapeCasts_S512x512_S1x512x512 casts_block
theorem pay9_cast (v : Vec F S1x512x512 .bf16) : shapeCast S512x512 (k0_pay9 v) casts_block = k0_pay7 v := shapeCast_shapeCast (k0_pay7 v) shapeCasts_S512x512_S1x512x512 casts_block
theorem pay1_cast (v : Vec F S1x512x512 .bf16) : shapeCast S512x512 (k0_pay1 (k0_pay10 v)) casts_block = k0_pay7 v := shapeCast_shapeCast (k0_pay7 v) shapeCasts_S512x512_S1x512x512 casts_block

/-! ## The device's holdings -/

/-- The two arguments, at what the run started with; `w` in two half shares, one for each copy of columns in flight. -/
def inPts (c : Dev nD) : sProp 𝕄 :=
  iprop(((Memref.whole main_arg0).view.loc (c : Thread nD τ) ↦{fullShare} xAt m c)
    ∗ ((Memref.whole main_arg1).view.loc (c : Thread nD τ) ↦{fullShare.left} m ((c : Thread nD τ).loc main_arg1))
    ∗ ((Memref.whole main_arg1).view.loc (c : Thread nD τ) ↦{fullShare.right} m ((c : Thread nD τ).loc main_arg1)))

/-- The scratch buffers in their pieces, whatever they hold. -/
def workPts (c : Dev nD) : sProp 𝕄 :=
  iprop((∃ f, (Memref.whole cc0_scratch0).view.loc (c : Thread nD τ) ↦{fullShare} f)
    ∗ ((∃ f, (wM 0).view.loc (c : Thread nD τ) ↦[(wM 0).view.set]{fullShare} f) ∗ (∃ f, (wM 1).view.loc (c : Thread nD τ) ↦[(wM 1).view.set]{fullShare} f))
    ∗ ((∃ f, (stM 0).view.loc (c : Thread nD τ) ↦[(stM 0).view.set]{fullShare} f) ∗ (∃ f, (stM 1).view.loc (c : Thread nD τ) ↦[(stM 1).view.set]{fullShare} f))
    ∗ ((∃ f, sndPts c 0 f) ∗ (∃ f, sndPts c 1 f) ∗ (∃ f, sndPts c 2 f))
    ∗ ((∃ f, rcvPts c 0 f) ∗ (∃ f, rcvPts c 1 f) ∗ (∃ f, rcvPts c 2 f)))

/-- Rows of the result at contents of which `P` holds. -/
def rowsPts (c : Dev nD) (M : Memref sig .tc .hbm S512x512 .f32) (P : Vec F S512x512 .f32 → Prop) : sProp 𝕄 :=
  iprop(∃ f, ⌜P (M.view.read (Elt F) f)⌝ ∗ M.view.loc (c : Thread nD τ) ↦[M.view.set]{fullShare} f)

/-- The result's four row blocks: at the start, and once each block has been written. -/
def outStart (c : Dev nD) : sProp 𝕄 :=
  iprop(rowsPts c (ownM c) (fun _ => True) ∗ rowsPts c (gotM c 0) (fun _ => True) ∗ rowsPts c (gotM c 1) (fun _ => True) ∗ rowsPts c (gotM c 2) (fun _ => True))
def outDone (c : Dev nD) : sProp 𝕄 :=
  iprop(rowsPts c (ownM c) (· = kept m c) ∗ rowsPts c (gotM c 0) (· = got m c 0) ∗ rowsPts c (gotM c 1) (· = got m c 1) ∗ rowsPts c (gotM c 2) (· = got m c 2))

/-- The semaphores of the device's own copies, at zero. -/
def localSems (c : Dev nD) : sProp 𝕄 :=
  iprop(semVal ((c : Thread nD τ), SemLoc.dma 0) 0 ∗ semVal ((c : Thread nD τ), SemLoc.dma 1) 0
    ∗ semVal ((c : Thread nD τ), SemLoc.dma 2) 0 ∗ semVal ((c : Thread nD τ), SemLoc.dma 3) 0 ∗ semVal ((c : Thread nD τ), SemLoc.dma 4) 0)
/-- The semaphores of the exchange, at zero. -/
def siteSems (c : Dev nD) : sProp 𝕄 :=
  iprop(semVal (barCell c) 0 ∗ (semVal (sndCell c 0) 0 ∗ semVal (sndCell c 1) 0 ∗ semVal (sndCell c 2) 0)
    ∗ (semVal (rcvCell c 0) 0 ∗ semVal (rcvCell c 1) 0 ∗ semVal (rcvCell c 2) 0))

/-- The credit that the other devices owe `c`. -/
def credits (c : Dev nD) : sProp 𝕄 :=
  iprop(cred (tallyAt (barCell c) () 3) ∗ cred (tallyAt (rcvCell c 0) () N) ∗ cred (tallyAt (rcvCell c 1) () N) ∗ cred (tallyAt (rcvCell c 2) () N))
/-- The duties that `c` pays: a unit to each other device, and for each slot its departure and its landing. -/
def payToks (c : Dev nD) : sProp 𝕄 :=
  iprop((dutyTok ER (barCell (sh 1 c)) 0 2 ∗ dutyTok ER (barCell (sh 2 c)) 0 1 ∗ dutyTok ER (barCell (sh 3 c)) 0 0)
    ∗ (dutyTok ER (sndCell c 0) 0 0 ∗ dutyTok ER (sndCell c 1) 0 1 ∗ dutyTok ER (sndCell c 2) 0 2)
    ∗ (dutyTok ER (rcvCell (dstOf 0 c) 0) 0 0 ∗ dutyTok ER (rcvCell (dstOf 1 c) 1) 0 1 ∗ dutyTok ER (rcvCell (dstOf 2 c) 2) 0 2))
/-- `c`'s positions at its own seven cells. -/
def positions (c : Dev nD) : sProp 𝕄 :=
  iprop(atPos ER (barCell c) 0 ∅ 0
    ∗ (atPos ER (sndCell c 0) 0 ∅ 0 ∗ atPos ER (sndCell c 1) 0 ∅ 0 ∗ atPos ER (sndCell c 2) 0 ∅ 0)
    ∗ (atPos ER (rcvCell c 0) 0 ∅ 0 ∗ atPos ER (rcvCell c 1) 0 ∅ 0 ∗ atPos ER (rcvCell c 2) 0 ∅ 0))
/-- The device's part of the exchange: every cell's record, its own positions, and the tokens of what it pays. -/
def part (c : Dev nD) : sProp 𝕄 := iprop(∃ K, records m K ∗ positions c ∗ payToks c)

end Cert.Exchange

end
-- ==== Proof.Body.lean ====
/-
# The body of a device, run once

For a symbolic device and any float values: from its pieces, its part of the exchange and its debts to its result
written and every semaphore at zero.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem back_1 : ∀ c : Dev nD, dstOf 2 (sh 1 c) = c := by decide
theorem back_2 : ∀ c : Dev nD, dstOf 1 (sh 2 c) = c := by decide
theorem back_3 : ∀ c : Dev nD, dstOf 0 (sh 3 c) = c := by decide

/-- What a device holds when its body starts, -/
def bodyPre (c : Dev nD) : sProp 𝕄 :=
  iprop(inPts m c ∗ workPts c ∗ outStart c ∗ localSems c ∗ levAts L lv ∗ credits c ∗ part m c)
/-- and when it has ended: its result written, every semaphore at zero. -/
def bodyPost (c : Dev nD) : sProp 𝕄 :=
  iprop(inPts m c ∗ workPts c ∗ outDone m c ∗ localSems c ∗ siteSems c)

set_option maxHeartbeats 4000000 in
/-- The body of device `c`, run once for any float values: it owes its three units and three copies, and ends owing
    nothing. -/
theorem run_body (c : Dev nD) (W : Waits sig Unit) :
    iprop(bodyPre m c ∗ owes (c : Thread nD τ) (E₁ c) W)
      ⊢ wp frame (wpE (defs₀ (F := F)) 𝒱₀ c none) Set.univ (bodyAt0 (F := F) t0_0)
          (fun _ => iprop(bodyPost m c ∗ ∃ W', owes (c : Thread nD τ) 0 W')) := by
  have hmw : ∀ q : DmaSem sig, q.val < 5 → (levAts L lv : sProp 𝕄) ⊢ MayWait (c : Thread nD τ) (.dma q) () (E₁ c) :=
    fun q hq => mayWait_local c (over_E₁ (by decide) c) q hq
  have hmw1 : ∀ q : DmaSem sig, q.val < 5 → (levAts L lv : sProp 𝕄) ⊢ MayWait (c : Thread nD τ) (.dma q) () (D₁ c) :=
    fun q hq => mayWait_local c (over_D₁ (by decide) c) q hq
  have hmw0 : ∀ q : DmaSem sig, q.val < 5 → (levAts L lv : sProp 𝕄) ⊢ MayWait (c : Thread nD τ) (.dma q) () (D₀ c) :=
    fun q hq => mayWait_local c (over_D₀ (by decide) c) q hq
  have hmw2 : ∀ q : DmaSem sig, q.val < 5 → (levAts L lv : sProp 𝕄) ⊢ MayWait (c : Thread nD τ) (.dma q) () (D₂ c) :=
    fun q hq => mayWait_local c (over_D₂ (by decide) c) q hq
  unfold bodyAt0
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold bodyPre inPts workPts outStart rowsPts localSems credits part positions payToks
  iintro ⟨⟨⟨Hx, Hw, Hw'⟩, ⟨⟨%f0, Hxb⟩, ⟨⟨%g0, Hwb0⟩, ⟨%g1, Hwb1⟩⟩, ⟨⟨%s0, Hst0⟩, ⟨%s1, Hst1⟩⟩, ⟨⟨%b0, Hb0⟩, ⟨%b1, Hb1⟩, ⟨%b2, Hb2⟩⟩, ⟨Hr0, Hr1, Hr2⟩⟩,
    ⟨⟨%o, -, Ho⟩, ⟨%o0, -, Hg0⟩, ⟨%o1, -, Hg1⟩, ⟨%o2, -, Hg2⟩⟩, ⟨HsX, HsW0, HsW1, HsO0, HsO1⟩, #Hlev, ⟨Hcb, Hcr0, Hcr1, Hcr2⟩,
    ⟨%K, #HR, ⟨Hpb, ⟨Hps0, Hps1, Hps2⟩, ⟨Hpr0, Hpr1, Hpr2⟩⟩, ⟨⟨Htb1, Htb2, Htb3⟩, ⟨Hts0, Hts1, Hts2⟩, ⟨Htr0, Htr1, Htr2⟩⟩⟩⟩, HO⟩
  unfold sndPts
  sl_exec
  iapply (wp_unit m K c _ 1 (dev1_eq c) 2 (back_1 c) (E₂ c) W) $$ [HO Htb1 Hr2]
  · isplitr; · iexact HR
    isplitl [HO]; · iexact HO
    isplitl [Htb1]; · iexact Htb1
    iexact Hr2
  iintro HO
  sl_exec
  iapply (wp_unit m K c _ 2 (dev2_eq c) 1 (back_2 c) (E₃ c) W) $$ [HO Htb2 Hr1]
  · isplitr; · iexact HR
    isplitl [HO]; · iexact HO
    isplitl [Htb2]; · iexact Htb2
    iexact Hr1
  iintro HO
  sl_exec
  iapply (wp_unit m K c _ 3 (dev3_eq c) 0 (back_3 c) (D₁ c) W) $$ [HO Htb3 Hr0]
  · isplitr; · iexact HR
    isplitl [HO]; · iexact HO
    isplitl [Htb3]; · iexact Htb3
    iexact Hr0
  iintro HO
  sl_exec
  iapply (wp_meet m K c W) $$ [Hcb HO Hpb]
  · isplitr; · iexact HR
    isplitr; · iexact Hlev
    isplitl [Hcb]; · iexact Hcb
    isplitl [HO]; · iexact HO
    iexact Hpb
  iintro ⟨HO, Hpb, Hd0, Hd1, Hd2⟩
  sl_exec
  have hs1 : (sndM 1).view.read (Elt F) (run_body.sl.Hb1_w1 m c f0 b1) = sent m c 1 :=
    (stored_snd 1 b1 _).trans ((pay2_cast _ _).trans (congrArg₂ k0_pay4 (load_x f0 (xAt m c) _) (load_w 0 _ _ _)))
  iapply (wp_copy m K c _ 1 (dev4_eq c) _ _ rfl rfl (D₀ c) _ _ hs1) $$ [HO Hb1 Hd1 Hts1 Htr1]
  · isplitr; · iexact HR
    isplitl [Hb1]; · unfold sndPts; iexact Hb1
    isplitl [Hd1]; · iexact Hd1
    isplitl [HO]; · iexact HO
    isplitl [Hts1]; · iexact Hts1
    iexact Htr1
  iintro ⟨Hcs1, HO⟩
  sl_exec
  have hs0 : (sndM 0).view.read (Elt F) (run_body.sl.Hb0_w1 m c f0 b0) = sent m c 0 :=
    (stored_snd 0 b0 _).trans ((pay3_cast _ _).trans (congrArg₂ k0_pay4 (load_x f0 (xAt m c) _) (load_w 1 _ _ _)))
  iapply (wp_copy m K c _ 0 (dev5_eq c) _ _ rfl rfl (D₂ c) _ _ hs0) $$ [HO Hb0 Hd0 Hts0 Htr0]
  · isplitr; · iexact HR
    isplitl [Hb0]; · unfold sndPts; iexact Hb0
    isplitl [Hd0]; · iexact Hd0
    isplitl [HO]; · iexact HO
    isplitl [Hts0]; · iexact Hts0
    iexact Htr0
  iintro ⟨Hcs0, HO⟩
  sl_exec
  have hs2 : (sndM 2).view.read (Elt F) (run_body.sl.Hb2_w1 m c f0 b2) = sent m c 2 :=
    (stored_snd 2 b2 _).trans ((pay5_cast _).trans (congrArg₂ k0_pay4 (load_x f0 (xAt m c) _) (load_w 0 _ _ _)))
  iapply (wp_copy m K c _ 2 (dev6_eq c) _ _ rfl rfl 0 _ _ hs2) $$ [HO Hb2 Hd2 Hts2 Htr2]
  · isplitr; · iexact HR
    isplitl [Hb2]; · unfold sndPts; iexact Hb2
    isplitl [Hd2]; · iexact Hd2
    isplitl [HO]; · rw [zero_add]; iexact HO
    isplitl [Hts2]; · iexact Hts2
    iexact Htr2
  iintro ⟨Hcs2, HO⟩
  sl_exec
  iapply (wp_departed m K c 0 _ rfl (b := rcvM 0) (b' := sndM 0) rfl _) $$ [HO Hcs0 Hps0]
  · isplitr; · iexact HR
    isplitl [Hcs0]; · iexact Hcs0
    isplitl [HO]; · iexact HO
    iexact Hps0
  iintro ⟨HO, Hps0, Hb0⟩
  sl_exec
  iapply (wp_landed m K c 0 _ rfl (b := sndM 0) (b' := rcvM 0) rfl _) $$ [HO Hcr0 Hpr0]
  · isplitr; · iexact HR
    isplitl [Hcr0]; · iexact Hcr0
    isplitl [HO]; · iexact HO
    iexact Hpr0
  iintro ⟨HO, Hpr0, ⟨%r0, %hr0, Hr0⟩⟩
  unfold rcvPts
  sl_exec
  iapply (wp_departed m K c 2 _ rfl (b := rcvM 2) (b' := sndM 2) rfl _) $$ [HO Hcs2 Hps2]
  · isplitr; · iexact HR
    isplitl [Hcs2]; · iexact Hcs2
    isplitl [HO]; · iexact HO
    iexact Hps2
  iintro ⟨HO, Hps2, Hb2⟩
  sl_exec
  iapply (wp_landed m K c 2 _ rfl (b := sndM 2) (b' := rcvM 2) rfl _) $$ [HO Hcr2 Hpr2]
  · isplitr; · iexact HR
    isplitl [Hcr2]; · iexact Hcr2
    isplitl [HO]; · iexact HO
    iexact Hpr2
  iintro ⟨HO, Hpr2, ⟨%r2, %hr2, Hr2⟩⟩
  unfold rcvPts
  sl_exec
  iapply (wp_departed m K c 1 _ rfl (b := rcvM 1) (b' := sndM 1) rfl _) $$ [HO Hcs1 Hps1]
  · isplitr; · iexact HR
    isplitl [Hcs1]; · iexact Hcs1
    isplitl [HO]; · iexact HO
    iexact Hps1
  iintro ⟨HO, Hps1, Hb1⟩
  sl_exec
  iapply (wp_landed m K c 1 _ rfl (b := sndM 1) (b' := rcvM 1) rfl _) $$ [HO Hcr1 Hpr1]
  · isplitr; · iexact HR
    isplitl [Hcr1]; · iexact Hcr1
    isplitl [HO]; · iexact HO
    iexact Hpr1
  iintro ⟨HO, Hpr1, ⟨%r1, %hr1, Hr1⟩⟩
  unfold rcvPts
  sl_exec
  imod (close_site m K (c, .inl ())) $$ [Hpb] with Hzb
  · isplitr; · iexact HR
    iexact Hpb
  imod (close_site m K (c, .inr (.inl 0))) $$ [Hps0] with Hzs0
  · isplitr; · iexact HR
    iexact Hps0
  imod (close_site m K (c, .inr (.inl 1))) $$ [Hps1] with Hzs1
  · isplitr; · iexact HR
    iexact Hps1
  imod (close_site m K (c, .inr (.inl 2))) $$ [Hps2] with Hzs2
  · isplitr; · iexact HR
    iexact Hps2
  imod (close_site m K (c, .inr (.inr 0))) $$ [Hpr0] with Hzr0
  · isplitr; · iexact HR
    iexact Hpr0
  imod (close_site m K (c, .inr (.inr 1))) $$ [Hpr1] with Hzr1
  · isplitr; · iexact HR
    iexact Hpr1
  imod (close_site m K (c, .inr (.inr 2))) $$ [Hpr2] with Hzr2
  · isplitr; · iexact HR
    iexact Hpr2
  have ho : (ownM c).view.read (Elt F) ((ownM c).view.writes (Elt F) o [⟨Rect.whole S512x512, run_body.sl.dma4 m c f0 s0⟩]) = kept m c :=
    (read_covered _ _ _ _).trans ((stored_st 0 s0 _).trans
      (congrArg (fun z => shapeCast S512x512 z casts_block) (congrArg₂ k0_pay6 (load_x f0 (xAt m c) _) (load_w 1 _ _ _))))
  have hg0 : (gotM c 0).view.read (Elt F) ((gotM c 0).view.writes (Elt F) o0 [⟨Rect.whole S512x512, run_body.sl.dma3 c s1 r0⟩]) = got m c 0 :=
    (read_covered _ _ _ _).trans ((stored_st 1 _ _).trans ((pay8_cast _).trans (widened m c 0 r0 hr0)))
  have hg2 : (gotM c 2).view.read (Elt F) ((gotM c 2).view.writes (Elt F) o2 [⟨Rect.whole S512x512, run_body.sl.dma3_1 m c f0 s0 r2⟩]) = got m c 2 :=
    (read_covered _ _ _ _).trans ((stored_st 0 _ _).trans ((pay9_cast _).trans (widened m c 2 r2 hr2)))
  have hg1 : (gotM c 1).view.read (Elt F) ((gotM c 1).view.writes (Elt F) o1 [⟨Rect.whole S512x512, run_body.sl.dma3_2 c s1 r0 r1⟩]) = got m c 1 :=
    (read_covered _ _ _ _).trans ((stored_st 1 _ _).trans ((pay1_cast _).trans (widened m c 1 r1 hr1)))
  rw [wp_ret]; imodintro
  isplitr [HO]
  · unfold bodyPost inPts workPts outDone rowsPts localSems siteSems sndPts rcvPts
    isplitl [Hx Hw Hw']
    · isplitl [Hx]; · iexact Hx
      isplitl [Hw]; · iexact Hw
      iexact Hw'
    isplitl [Hxb Hwb0 Hwb1 Hst0 Hst1 Hb0 Hb1 Hb2 Hr0 Hr1 Hr2]
    · isplitl [Hxb]; · iexists _; iexact Hxb
      isplitl [Hwb0 Hwb1]
      · isplitl [Hwb0]; · iexists _; iexact Hwb0
        iexists _; iexact Hwb1
      isplitl [Hst0 Hst1]
      · isplitl [Hst0]; · iexists _; iexact Hst0
        iexists _; iexact Hst1
      isplitl [Hb0 Hb1 Hb2]
      · isplitl [Hb0]; · iexact Hb0
        isplitl [Hb1]; · iexact Hb1
        iexact Hb2
      isplitl [Hr0]; · iexists _; iexact Hr0
      isplitl [Hr1]; · iexists _; iexact Hr1
      iexists _; iexact Hr2
    isplitl [Ho Hg0 Hg1 Hg2]
    · isplitl [Ho]; · iexists _; isplitr; · ipureintro; exact ho
                      iexact Ho
      isplitl [Hg0]; · iexists _; isplitr; · ipureintro; exact hg0
                       iexact Hg0
      isplitl [Hg1]; · iexists _; isplitr; · ipureintro; exact hg1
                       iexact Hg1
      iexists _; isplitr; · ipureintro; exact hg2
      iexact Hg2
    isplitl [HsX HsW0 HsW1 HsO0 HsO1]
    · isplitl [HsX]; · iexact HsX
      isplitl [HsW0]; · iexact HsW0
      isplitl [HsW1]; · iexact HsW1
      isplitl [HsO0]; · iexact HsO0
      iexact HsO1
    isplitl [Hzb]; · iexact Hzb
    isplitl [Hzs0 Hzs1 Hzs2]
    · isplitl [Hzs0]; · iexact Hzs0
      isplitl [Hzs1]; · iexact Hzs1
      iexact Hzs2
    isplitl [Hzr0]; · iexact Hzr0
    isplitl [Hzr1]; · iexact Hzr1
    iexact Hzr2
  iexists _; iexact HO

end Cert.Exchange

end
-- ==== Proof.Pieces.lean ====
/-
# Buffers taken apart and put together

A buffer of slots is its slots; the result array is four row blocks, one per device that computed it.
-/
module

public import proofs.«01_k».proof.Proof.Slots
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The sets of elements -/

/-- Sets told apart by a key are disjoint, -/
theorem keyed_disjoint {T B : Type} [DecidableEq T] {I : B → Finset T} {key : T → B} (h : ∀ b i, i ∈ I b ↔ key i = b) (b b' : B) (hne : b ≠ b') :
    Disjoint (I b) (I b') :=
  Finset.disjoint_left.mpr fun i hi hi' => hne (((h b i).mp hi).symm.trans ((h b' i).mp hi'))
/-- and together hold everything. -/
theorem keyed_cover {T B : Type} [Fintype T] [DecidableEq T] [Fintype B] {I : B → Finset T} {key : T → B} (h : ∀ b i, i ∈ I b ↔ key i = b) :
    Finset.univ.biUnion I = Finset.univ :=
  Finset.eq_univ_iff_forall.mpr fun i => Finset.mem_biUnion.mpr ⟨key i, Finset.mem_univ _, (h _ i).mpr rfl⟩

/-- The elements of slot `b` of `n` are those whose first coordinate is `b`. -/
theorem mem_slot {n A B : ℕ} (b : Fin n) (inb : ∀ a, (![b.val, 0, 0] : Fin 3 → ℕ) a + (![1, A, B] : Fin 3 → ℕ) a ≤ (![n, A, B] : Fin 3 → ℕ) a)
    (i : (⟨3, ![n, A, B]⟩ : Shape).Idx) :
    i ∈ (Rect.unit (s := ⟨3, ![n, A, B]⟩) ![b.val, 0, 0] ![1, A, B] inb).set ↔ (i (0 : Fin 3) : Fin n) = b := by
  rw [Rect.mem_set_unit]
  constructor
  · intro h
    have h0 := h (0 : Fin 3)
    exact Fin.ext (by have h1 : b.val ≤ (i (0 : Fin 3)).val ∧ (i (0 : Fin 3)).val < b.val + 1 := h0; omega)
  · rintro h a
    have hv : (i (0 : Fin 3)).val = b.val := congrArg Fin.val h
    have h1 : (i (1 : Fin 3)).val < A := (i (1 : Fin 3)).isLt
    have h2 : (i (2 : Fin 3)).val < B := (i (2 : Fin 3)).isLt
    fin_cases a
    · show b.val ≤ (i (0 : Fin 3)).val ∧ (i (0 : Fin 3)).val < b.val + 1; omega
    · show 0 ≤ (i (1 : Fin 3)).val ∧ (i (1 : Fin 3)).val < 0 + A; omega
    · show 0 ≤ (i (2 : Fin 3)).val ∧ (i (2 : Fin 3)).val < 0 + B; omega

theorem wM_set (b : Fin 2) : (((wM b).view.set : Finset S2x2048x512.Idx)) = (Rect.unit (s := S2x2048x512) ![b.val, 0, 0] S1x2048x512.size (half_w_inb b)).set :=
  (View.set_reshape _ _).trans (View.set_slice_whole _ _)
theorem mem_wM (b : Fin 2) (i : S2x2048x512.Idx) : i ∈ ((wM b).view.set : Finset S2x2048x512.Idx) ↔ (i (0 : Fin 3) : Fin 2) = b :=
  (Iff.of_eq (congrArg (i ∈ ·) (wM_set b))).trans (mem_slot (n := 2) (A := 2048) (B := 512) b _ i)
theorem stM_set (b : Fin 2) : (((stM b).view.set : Finset S2x512x512.Idx)) = (Rect.unit (s := S2x512x512) ![b.val, 0, 0] S1x512x512.size (half_s_inb b)).set :=
  (View.set_reshape _ _).trans (View.set_slice_whole _ _)
theorem mem_stM (b : Fin 2) (i : S2x512x512.Idx) : i ∈ ((stM b).view.set : Finset S2x512x512.Idx) ↔ (i (0 : Fin 3) : Fin 2) = b :=
  (Iff.of_eq (congrArg (i ∈ ·) (stM_set b))).trans (mem_slot (n := 2) (A := 512) (B := 512) b _ i)
theorem sndM_set (b : Fin 3) : (((sndM b).view.set : Finset S3x512x512.Idx)) = (Rect.unit (s := S3x512x512) ![b.val, 0, 0] S1x512x512.size (slot_inb b)).set :=
  (View.set_reshape _ _).trans (View.set_slice_whole _ _)
theorem mem_sndM (b : Fin 3) (i : S3x512x512.Idx) : i ∈ ((sndM b).view.set : Finset S3x512x512.Idx) ↔ (i (0 : Fin 3) : Fin 3) = b :=
  (Iff.of_eq (congrArg (i ∈ ·) (sndM_set b))).trans (mem_slot (n := 3) (A := 512) (B := 512) b _ i)
theorem rcvM_set (b : Fin 3) : (((rcvM b).view.set : Finset S3x512x512.Idx)) = (Rect.unit (s := S3x512x512) ![b.val, 0, 0] S1x512x512.size (slot_inb b)).set :=
  (View.set_reshape _ _).trans (View.set_slice_whole _ _)
theorem mem_rcvM (b : Fin 3) (i : S3x512x512.Idx) : i ∈ ((rcvM b).view.set : Finset S3x512x512.Idx) ↔ (i (0 : Fin 3) : Fin 3) = b :=
  (Iff.of_eq (congrArg (i ∈ ·) (rcvM_set b))).trans (mem_slot (n := 3) (A := 512) (B := 512) b _ i)

/-- The device whose block of rows an element of the result lies in. -/
def rowKey (i : S2048x512.Idx) : Dev nD := ⟨(i (0 : Fin 2)).val / 512, by have h : (i (0 : Fin 2)).val < 2048 := (i (0 : Fin 2)).isLt; show _ < 4; omega⟩

/-- The rows of device `d`'s block. -/
def blockRows (d : Dev nD) : Finset S2048x512.Idx := Finset.univ.filter fun i => rowKey i = d
theorem mem_blockRows (d : Dev nD) (i : S2048x512.Idx) : i ∈ blockRows d ↔ rowKey i = d := by unfold blockRows; rw [Finset.mem_filter]; exact ⟨fun h => h.2, fun h => ⟨Finset.mem_univ _, h⟩⟩

theorem off3_eq : ∀ (c : Dev nD) (j : Fin 3), k0_off3 c (BitVec.ofNat 32 (1 + j.val)) = ![512 * (srcOf j c).val, 0] := by decide +kernel

theorem rows_set (d : Dev nD) (off : Fin 2 → ℕ) (h : off = ![512 * d.val, 0]) (inb : ∀ a, off a + S512x512.size a ≤ S2048x512.size a) :
    (Rect.unit (s := S2048x512) off S512x512.size inb).set = blockRows d := by
  subst h
  ext i
  rw [mem_blockRows, Rect.mem_set_unit]
  have h1 : (i (1 : Fin 2)).val < 512 := (i (1 : Fin 2)).isLt
  constructor
  · intro h
    have h0 : 512 * d.val ≤ (i (0 : Fin 2)).val ∧ (i (0 : Fin 2)).val < 512 * d.val + 512 := h (0 : Fin 2)
    exact Fin.ext (show (i (0 : Fin 2)).val / 512 = d.val by omega)
  · rintro h a
    have hv : (i (0 : Fin 2)).val / 512 = d.val := congrArg Fin.val h
    fin_cases a
    · show 512 * d.val ≤ (i (0 : Fin 2)).val ∧ (i (0 : Fin 2)).val < 512 * d.val + 512; omega
    · show 0 ≤ (i (1 : Fin 2)).val ∧ (i (1 : Fin 2)).val < 0 + 512; omega

theorem ownM_set (c : Dev nD) : ((ownM c).view.set : Finset S2048x512.Idx) = blockRows c :=
  (View.set_slice_whole _ _).trans (rows_set c _ (k0_off2_eq c) _)
theorem gotM_set (c : Dev nD) (j : Fin 3) : ((gotM c j).view.set : Finset S2048x512.Idx) = blockRows (srcOf j c) :=
  (View.set_slice_whole _ _).trans (rows_set (srcOf j c) _ (off3_eq c j) _)

/-! ## The split and the join of a buffer of slots -/

omit [FloatOps F] in
theorem bigSep_fin2 (Φ : Fin 2 → sProp 𝕄) : bigSep Finset.univ Φ = iprop(Φ 0 ∗ Φ 1) :=
  bigSep_univ_eq_bigSepL [0, 1] (by decide) (by decide) Φ

section Keyed

variable {ℓ : Loc nD τ sig} {B : Type} [Fintype B] [DecidableEq B] {I : B → Finset (Idx ℓ)} {key : Idx ℓ → B} (h : ∀ b i, i ∈ I b ↔ key i = b)

omit [FloatOps F] in
include h in
theorem keyed_split : (iprop(∃ f : Buf (Elt F) ℓ, ℓ ↦{fullShare} f) : sProp 𝕄) ⊢ bigSep Finset.univ fun b => iprop(∃ f, ℓ ↦[I b]{fullShare} f) := by
  have hb (f : Buf (Elt F) ℓ) (b : B) : (ℓ ↦[I b]{fullShare} f : sProp 𝕄) ⊢ iprop(∃ f, ℓ ↦[I b]{fullShare} f) := by
    iintro H; iexists f; iexact H
  have hs (f : Buf (Elt F) ℓ) : (ℓ ↦{fullShare} f : sProp 𝕄) ⊢ bigSep Finset.univ fun b => iprop(∃ f, ℓ ↦[I b]{fullShare} f) :=
    (Entails.of_eq (Ring.pointsTo_blocks I (keyed_disjoint h) (keyed_cover h) f)).trans (bigSep_mono fun b _ => hb f b)
  iintro ⟨%f, H⟩
  iapply (hs f); iexact H

omit [FloatOps F] in
include h in
theorem keyed_join (f₀ : Buf (Elt F) ℓ) : (bigSep Finset.univ fun b => iprop(∃ f, ℓ ↦[I b]{fullShare} f) : sProp 𝕄) ⊢ iprop(∃ f, ℓ ↦{fullShare} f) :=
  Ring.pointsTo_blocks_join_exists I (keyed_disjoint h) (keyed_cover h) f₀

end Keyed

/-! ## The scratch buffers -/

/-- The scratch buffers whole, whatever they hold. -/
def scratchPts (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

theorem work_split (c : Dev nD) : (scratchPts c : sProp 𝕄) ⊢ workPts c := by
  unfold scratchPts workPts sndPts rcvPts
  iintro ⟨H0, H1, H2, H3, H4⟩
  ihave H1 := ((keyed_split (F := F) (ℓ := (c : Thread nD τ).loc cc0_scratch1) (I := fun b => (wM b).view.set) mem_wM).trans (Entails.of_eq (bigSep_fin2 _))) $$ H1
  ihave H2 := ((keyed_split (F := F) (ℓ := (c : Thread nD τ).loc cc0_scratch2) (I := fun b => (sndM b).view.set) mem_sndM).trans (Entails.of_eq (bigSep_fin3 _))) $$ H2
  ihave H3 := ((keyed_split (F := F) (ℓ := (c : Thread nD τ).loc cc0_scratch3) (I := fun b => (rcvM b).view.set) mem_rcvM).trans (Entails.of_eq (bigSep_fin3 _))) $$ H3
  ihave H4 := ((keyed_split (F := F) (ℓ := (c : Thread nD τ).loc cc0_scratch4) (I := fun b => (stM b).view.set) mem_stM).trans (Entails.of_eq (bigSep_fin2 _))) $$ H4
  isplitl [H0]; · iexact H0
  isplitl [H1]; · iexact H1
  isplitl [H4]; · iexact H4
  isplitl [H2]; · iexact H2
  iexact H3

theorem work_join (c : Dev nD) : (workPts c : sProp 𝕄) ⊢ scratchPts c := by
  unfold scratchPts workPts sndPts rcvPts
  iintro ⟨H0, ⟨⟨%g, Hg⟩, H1⟩, ⟨⟨%s, Hs⟩, H4⟩, ⟨⟨%b, Hb⟩, H2, H2'⟩, ⟨⟨%r, Hr⟩, H3, H3'⟩⟩
  isplitl [H0]; · iexact H0
  isplitl [Hg H1]
  · iapply ((Entails.of_eq (bigSep_fin2 _).symm).trans (keyed_join (F := F) (ℓ := (c : Thread nD τ).loc cc0_scratch1) (I := fun b => (wM b).view.set) mem_wM g))
    isplitl [Hg]; · iexists g; iexact Hg
    iexact H1
  isplitl [Hb H2 H2']
  · iapply ((Entails.of_eq (bigSep_fin3 _).symm).trans (keyed_join (F := F) (ℓ := (c : Thread nD τ).loc cc0_scratch2) (I := fun b => (sndM b).view.set) mem_sndM b))
    isplitl [Hb]; · iexists b; iexact Hb
    isplitl [H2]; · iexact H2
    iexact H2'
  isplitl [Hr H3 H3']
  · iapply ((Entails.of_eq (bigSep_fin3 _).symm).trans (keyed_join (F := F) (ℓ := (c : Thread nD τ).loc cc0_scratch3) (I := fun b => (rcvM b).view.set) mem_rcvM r))
    isplitl [Hr]; · iexists r; iexact Hr
    isplitl [H3]; · iexact H3
    iexact H3'
  iapply ((Entails.of_eq (bigSep_fin2 _).symm).trans (keyed_join (F := F) (ℓ := (c : Thread nD τ).loc cc0_scratch4) (I := fun b => (stM b).view.set) mem_stM s))
  isplitl [Hs]; · iexists s; iexact Hs
  iexact H4

/-! ## The arguments and the result -/

theorem rows_all : ∀ c : Dev nD, Finset.univ = [c, srcOf 0 c, srcOf 1 c, srcOf 2 c].toFinset := by decide
theorem rows_nodup : ∀ c : Dev nD, [c, srcOf 0 c, srcOf 1 c, srcOf 2 c].Nodup := by decide

theorem out_split (c : Dev nD) (f : Buf (Elt F) ((c : Thread nD τ).loc main_v1)) :
    (((c : Thread nD τ).loc main_v1) ↦{fullShare} f : sProp 𝕄) ⊢ outStart c := by
  unfold outStart
  have hr (M : Memref sig .tc .hbm S512x512 .f32) (f : Buf (Elt F) (M.view.loc (c : Thread nD τ))) :
      (M.view.loc (c : Thread nD τ) ↦[M.view.set]{fullShare} f : sProp 𝕄) ⊢ rowsPts c M (fun _ => True) := by
    unfold rowsPts
    iintro H
    iexists f; isplitr; · ipureintro; trivial
    iexact H
  have hown (f : Buf (Elt F) ((c : Thread nD τ).loc main_v1)) : (((c : Thread nD τ).loc main_v1) ↦[blockRows c]{fullShare} f : sProp 𝕄) ⊢ rowsPts c (ownM c) (fun _ => True) :=
    (Entails.of_eq (congrArg (fun S => (((c : Thread nD τ).loc main_v1) ↦[S]{fullShare} f : sProp 𝕄)) (ownM_set c).symm)).trans (hr (ownM c) f)
  have hgot (j : Fin 3) (f : Buf (Elt F) ((c : Thread nD τ).loc main_v1)) : (((c : Thread nD τ).loc main_v1) ↦[blockRows (srcOf j c)]{fullShare} f : sProp 𝕄) ⊢ rowsPts c (gotM c j) (fun _ => True) :=
    (Entails.of_eq (congrArg (fun S => (((c : Thread nD τ).loc main_v1) ↦[S]{fullShare} f : sProp 𝕄)) (gotM_set c j).symm)).trans (hr (gotM c j) f)
  have hk : ∀ b i, i ∈ blockRows b ↔ rowKey i = b := mem_blockRows
  have hl : (bigSep Finset.univ fun d => (((c : Thread nD τ).loc main_v1) ↦[blockRows d]{fullShare} f : sProp 𝕄))
      = iprop((((c : Thread nD τ).loc main_v1) ↦[blockRows c]{fullShare} f) ∗ (((c : Thread nD τ).loc main_v1) ↦[blockRows (srcOf 0 c)]{fullShare} f)
          ∗ (((c : Thread nD τ).loc main_v1) ↦[blockRows (srcOf 1 c)]{fullShare} f) ∗ (((c : Thread nD τ).loc main_v1) ↦[blockRows (srcOf 2 c)]{fullShare} f)) :=
    bigSep_univ_eq_bigSepL [c, srcOf 0 c, srcOf 1 c, srcOf 2 c] (rows_all c) (rows_nodup c) _
  iintro H
  ihave H := (Entails.of_eq ((Ring.pointsTo_blocks (ℓ := (c : Thread nD τ).loc main_v1) blockRows (keyed_disjoint hk) (keyed_cover hk) f).trans hl)) $$ H
  icases H with ⟨H0, H1, H2, H3⟩
  isplitl [H0]
  · iapply (hown f); iexact H0
  isplitl [H1]
  · iapply (hgot 0 f); iexact H1
  isplitl [H2]
  · iapply (hgot 1 f); iexact H2
  iapply (hgot 2 f); iexact H3

theorem in_split (c : Dev nD) :
    (iprop((((c : Thread nD τ).loc main_arg0) ↦{fullShare} m ((c : Thread nD τ).loc main_arg0)) ∗ (((c : Thread nD τ).loc main_arg1) ↦{fullShare} m ((c : Thread nD τ).loc main_arg1))) : sProp 𝕄)
      ⊢ inPts m c := by
  unfold inPts xAt
  iintro ⟨H0, H1⟩
  ihave H1 := (pointsTo_share (PosShare.mem_left_op_right fullShare)).1 $$ H1
  icases H1 with ⟨H1, H1'⟩
  isplitl [H0]; · iexact H0
  isplitl [H1]; · iexact H1
  iexact H1'

/-! ## What the final memory holds -/

/-- What is read of device `c` in a final memory: its arguments as they were, its result block by block. -/
def Reads (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ (ownM c).view.read (Elt F) (s.mem ((c : Thread nD τ).loc main_v1)) = kept m c
    ∧ ∀ j : Fin 3, (gotM c j).view.read (Elt F) (s.mem ((c : Thread nD τ).loc main_v1)) = got m c j

theorem rows_read (c : Dev nD) (M : Memref sig .tc .hbm S512x512 .f32) (v : Vec F S512x512 .f32) (s' : Phys nD τ sig (Elt F)) :
    (iprop(rowsPts c M (· = v) ∗ SI s') : sProp 𝕄) ⊢ iprop(⌜M.view.read (Elt F) (s'.mem.mem (M.view.loc (c : Thread nD τ))) = v⌝ ∗ SI s') := by
  unfold rowsPts
  iintro ⟨⟨%f, %hf, H⟩, HSI⟩
  icombine HSI H gives %h
  isplitr
  · ipureintro; exact (View.read_congr h).trans hf
  iexact HSI

theorem reads (c : Dev nD) (s' : Phys nD τ sig (Elt F)) :
    (iprop(inPts m c ∗ outDone m c ∗ SI s') : sProp 𝕄) ⊢ iprop(⌜Reads m c s'.mem⌝ ∗ SI s') := by
  unfold inPts outDone xAt
  iintro ⟨⟨H0, H1, -⟩, ⟨Ho, Hg0, Hg1, Hg2⟩, HSI⟩
  icombine HSI H0 gives %h0
  icombine HSI H1 gives %h1
  ihave H := (rows_read c (ownM c) (kept m c) s') $$ [Ho HSI]
  · isplitl [Ho] <;> iassumption
  icases H with ⟨%ho, HSI⟩
  ihave H := (rows_read c (gotM c 0) (got m c 0) s') $$ [Hg0 HSI]
  · isplitl [Hg0] <;> iassumption
  icases H with ⟨%hg0, HSI⟩
  ihave H := (rows_read c (gotM c 1) (got m c 1) s') $$ [Hg1 HSI]
  · isplitl [Hg1] <;> iassumption
  icases H with ⟨%hg1, HSI⟩
  ihave H := (rows_read c (gotM c 2) (got m c 2) s') $$ [Hg2 HSI]
  · isplitl [Hg2] <;> iassumption
  icases H with ⟨%hg2, HSI⟩
  isplitr
  · ipureintro
    refine ⟨Buf.eq_of_forall_mem_univ h0, Buf.eq_of_forall_mem_univ h1, ho, fun j => ?_⟩
    fin_cases j
    exacts [hg0, hg1, hg2]
  iexact HSI

end Cert.Exchange

end
-- ==== Proof.Funding.lean ====
/-
# The exchange's state at the launch

Every cell of the exchange is opened, its invariant allocated, and each device given its part: its positions at its
own cells, the tokens of the duties that it pays on other devices' cells, and the credit that the others owe it.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Sums over the sites and the slots -/

omit [FloatOps F] in
theorem bigSep_sites (Φ : Site → sProp 𝕄) : bigSep Finset.univ Φ
    = iprop(Φ (.inl ()) ∗ Φ (.inr (.inl 0)) ∗ Φ (.inr (.inl 1)) ∗ Φ (.inr (.inl 2)) ∗ Φ (.inr (.inr 0)) ∗ Φ (.inr (.inr 1)) ∗ Φ (.inr (.inr 2))) :=
  bigSep_univ_eq_bigSepL ([.inl (), .inr (.inl 0), .inr (.inl 1), .inr (.inl 2), .inr (.inr 0), .inr (.inr 1), .inr (.inr 2)] : List Site) (by decide) (by decide) Φ

omit [FloatOps F] in
/-- One thing per device and slot, each slot's dealt around by a permutation of its own. -/
theorem dealt (e : Fin 3 → (Dev nD ≃ Dev nD)) (Φ : Fin 3 → Dev nD → sProp 𝕄) :
    (bigSep Finset.univ fun c => bigSep Finset.univ fun j => Φ j c) = bigSep Finset.univ fun c => bigSep Finset.univ fun j => Φ j (e j c) := by
  simp only [bigSep_fin3, bigSep_sep']
  rw [bigSep_univ_equiv (e 0) (Φ 0), bigSep_univ_equiv (e 1) (Φ 1), bigSep_univ_equiv (e 2) (Φ 2)]

omit [FloatOps F] in
theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop(R ∗ bigSep S Φ) ⊢ iprop((bigSep S fun _ => R) ∗ bigSep S Φ) := sep_mono_left (BI.bigSep_of_persistent S R)
  rw [← bigSep_sep'] at h1
  exact h1.trans (bigSep_mono h)

/-! ## Cells and tokens -/

/-- All cells of the exchange, -/
def allCells : Finset (GSem nD τ sig) := Finset.univ.map ⟨kcell, kcell_injective⟩

/-- and a token for each duty of each cell: three at a barrier cell, one at each other. -/
abbrev Due : Type := Fin 3 ⊕ (Fin 3 ⊕ Fin 3)
def dueSite : Due → Site × Fin 3
  | .inl j => (.inl (), j)
  | .inr (.inl j) => (.inr (.inl j), j)
  | .inr (.inr j) => (.inr (.inr j), j)
theorem dueSite_injective : Function.Injective dueSite := by decide
abbrev dueOf (x : Dev nD × Due) : GSem nD τ sig × ℕ × Fin 3 := (kcell (x.1, (dueSite x.2).1), 0, (dueSite x.2).2)
theorem dueOf_injective : Function.Injective dueOf := fun a b h => by
  have h1 : (a.1, (dueSite a.2).1) = (b.1, (dueSite b.2).1) := kcell_injective (congrArg (fun y : GSem nD τ sig × ℕ × Fin 3 => y.1) h)
  have h2 : (dueSite a.2).2 = (dueSite b.2).2 := congrArg (fun y : GSem nD τ sig × ℕ × Fin 3 => y.2.2) h
  exact Prod.ext (congrArg (fun y => y.1) h1) (dueSite_injective (Prod.ext (congrArg (fun y => y.2) h1) h2))
def allDues : Finset (GSem nD τ sig × ℕ × Fin 3) := Finset.univ.map ⟨dueOf, dueOf_injective⟩

/-- The tokens of a device's own cells. -/
def toks (c : Dev nD) : sProp 𝕄 :=
  iprop((bigSep Finset.univ fun j : Fin 3 => dutyTok ER (barCell c) 0 j) ∗ (bigSep Finset.univ fun j : Fin 3 => dutyTok ER (sndCell c j) 0 j)
    ∗ (bigSep Finset.univ fun j : Fin 3 => dutyTok ER (rcvCell c j) 0 j))

omit [FloatOps F] in
theorem bigSep_dues (Φ : Due → sProp 𝕄) : bigSep Finset.univ Φ
    ⊢ iprop((bigSep Finset.univ fun j => Φ (.inl j)) ∗ (bigSep Finset.univ fun j => Φ (.inr (.inl j))) ∗ (bigSep Finset.univ fun j => Φ (.inr (.inr j)))) := by
  simp only [bigSep_fin3]
  have h : bigSep Finset.univ Φ = iprop(Φ (.inl 0) ∗ Φ (.inl 1) ∗ Φ (.inl 2) ∗ Φ (.inr (.inl 0)) ∗ Φ (.inr (.inl 1)) ∗ Φ (.inr (.inl 2))
      ∗ Φ (.inr (.inr 0)) ∗ Φ (.inr (.inr 1)) ∗ Φ (.inr (.inr 2))) :=
    bigSep_univ_eq_bigSepL ([.inl 0, .inl 1, .inl 2, .inr (.inl 0), .inr (.inl 1), .inr (.inl 2), .inr (.inr 0), .inr (.inr 1), .inr (.inr 2)] : List Due) (by decide) (by decide) Φ
  rw [h]
  iintro ⟨H0, H1, H2, H3, H4, H5, H6, H7, H8⟩
  isplitl [H0 H1 H2]
  · isplitl [H0]; · iexact H0
    isplitl [H1] <;> iassumption
  isplitl [H3 H4 H5]
  · isplitl [H3]; · iexact H3
    isplitl [H4] <;> iassumption
  isplitl [H6]; · iexact H6
  isplitl [H7] <;> iassumption

/-- What the launch deals a device: its cells' states, its positions and marks, its cells' tokens. -/
def G (c : Dev nD) : sProp 𝕄 :=
  iprop((bigSep Finset.univ fun s : Site => roundState ER (sched m) (kcell (c, s)) 0)
    ∗ (bigSep Finset.univ fun s : Site => atPos ER (kcell (c, s)) 0 ∅ 0) ∗ (bigSep Finset.univ fun s : Site => reached ER (kcell (c, s)) 0) ∗ toks c)

theorem opened : BI.own (ER (initOf allCells allDues)) ⊢ (|==> bigSep Finset.univ (G m) : sProp 𝕄) := by
  have hX (Φ : GSem nD τ sig → sProp 𝕄) : bigSep allCells Φ = bigSep Finset.univ fun c : Dev nD => bigSep Finset.univ fun s : Site => Φ (kcell (c, s)) := by
    unfold allCells; rw [bigSep_map, bigSep_univ_prod]; rfl
  have hT : bigSep allDues (fun x => (dutyTok ER x.1 x.2.1 x.2.2 : sProp 𝕄)) ⊢ bigSep Finset.univ fun c : Dev nD => toks c := by
    unfold allDues; rw [bigSep_map, bigSep_univ_prod]
    exact bigSep_mono fun c _ => bigSep_dues _
  iintro HX
  imod (Rounds.fund ER (sched m) allCells allDues) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat']; · iexact Hat'
  isplitl [Hr']; · iexact Hr'
  iexact Htok'

/-! ## The semaphores -/

/-- The kernel's own semaphores: all its DMA semaphores. -/
abbrev osem : Fin 11 → SemLoc sig := fun q => .dma q

omit [FloatOps F] in
theorem ownSems_eq (c : Dev nD) : (Pipeline.ownSems0 (Ix := Unit) (Name := ℕ) (U := UU) (Lvl := ℕ) (Val := Elt F) (τ := τ) osem c : sProp 𝕄)
    = iprop(semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0
      ∗ semVal (sndCell c 0) 0 ∗ semVal (sndCell c 1) 0 ∗ semVal (sndCell c 2) 0 ∗ semVal (rcvCell c 0) 0 ∗ semVal (rcvCell c 1) 0 ∗ semVal (rcvCell c 2) 0) := by
  rw [Pipeline.ownSems0_eq_of_list c osem [0, 1, 2, 3, 4, 5, 6, 7, 8, 9, 10] (by decide) (by decide)]; rfl
omit [FloatOps F] in
theorem barSem_eq (c : Dev nD) : (unscopedSems0 c : sProp 𝕄) = semVal (barCell c) 0 := by
  unfold unscopedSems0; rw [bigSep_eq_bigSepL_of_eq [SemLoc.reg barS] (by decide) (by decide)]; rfl

/-- They are the five of the device's own copies and the exchange's. -/
theorem sems_split (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun s : Site => semVal (kcell (c, s)) 0) : sProp 𝕄) := by
  rw [ownSems_eq, barSem_eq, bigSep_sites]
  unfold localSems
  iintro ⟨⟨H0, H1, H2, H3, H4, H5, H6, H7, H8, H9, H10⟩, HB⟩
  isplitl [H0 H1 H2 H3 H4]
  · isplitl [H0]; · iexact H0
    isplitl [H1]; · iexact H1
    isplitl [H2]; · iexact H2
    isplitl [H3] <;> iassumption
  isplitl [HB]; · iexact HB
  isplitl [H5]; · iexact H5
  isplitl [H6]; · iexact H6
  isplitl [H7]; · iexact H7
  isplitl [H8]; · iexact H8
  isplitl [H9]; · iexact H9
  iexact H10
theorem sems_join (c : Dev nD) : (iprop(localSems c ∗ siteSems c) : sProp 𝕄)
    ⊢ iprop(unscopedSems0 c ∗ Pipeline.ownSems0 (Ix := Unit) (Name := ℕ) (U := UU) (Lvl := ℕ) (Val := Elt F) (τ := τ) osem c) := by
  rw [ownSems_eq, barSem_eq]
  unfold localSems siteSems
  iintro ⟨⟨H0, H1, H2, H3, H4⟩, HB, ⟨H5, H6, H7⟩, H8, H9, H10⟩
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-! ## Every device at once -/

/-- A device's cells, each with its invariant under some name. -/
def opens (c : Dev nD) : sProp 𝕄 := bigSep Finset.univ fun s : Site => iprop(∃ κ : ℕ, cellInv ER (sched m) κ (kcell (c, s)))
def places (c : Dev nD) : sProp 𝕄 := bigSep Finset.univ fun s : Site => atPos ER (kcell (c, s)) 0 ∅ 0
def marks (c : Dev nD) : sProp 𝕄 := bigSep Finset.univ fun s : Site => reached ER (kcell (c, s)) 0

theorem core_open (c : Dev nD) :
    iprop(Pipeline.ownSems0 (Ix := Unit) (Name := ℕ) (U := UU) (Lvl := ℕ) (Val := Elt F) (τ := τ) osem c ∗ unscopedSems0 c ∗ G m c)
      ⊢ |={Set.univ}=> iprop(opens m c ∗ marks c ∗ places c ∗ toks c ∗ localSems c) := by
  have ha : iprop((bigSep Finset.univ fun s : Site => semVal (kcell (c, s)) 0) ∗ bigSep Finset.univ fun s : Site => roundState ER (sched m) (kcell (c, s)) 0)
      ⊢ (|={Set.univ}=> opens m c : sProp 𝕄) := by
    rw [← bigSep_sep']
    exact (bigSep_mono fun s _ => (Rounds.body_intro ER (sched m) (kcell (c, s))).trans inv_alloc).trans (bigSep_fupd _ _)
  unfold G marks places
  iintro ⟨Hos, Hus, Hst, Hat, Hre, Htok⟩
  ihave Hv := (sems_split (F := F) c) $$ [Hos Hus]
  · isplitl [Hos] <;> iassumption
  icases Hv with ⟨Hl, Hv⟩
  imod ha $$ [Hv Hst] with Hinv
  · isplitl [Hv] <;> iassumption
  imodintro
  isplitl [Hinv]; · iexact Hinv
  isplitl [Hre]; · iexact Hre
  isplitl [Hat]; · iexact Hat
  isplitl [Htok] <;> iassumption

/-- What a device starts from, besides its buffers and its credit. -/
def G' (c : Dev nD) : sProp 𝕄 := iprop(part m c ∗ localSems c)

/-- Every token goes to the device that pays the duty. -/
theorem toks_dealt : (bigSep Finset.univ fun c : Dev nD => (toks c : sProp 𝕄)) ⊢ bigSep Finset.univ fun c : Dev nD => payToks c := by
  have hp (c : Dev nD) : (iprop((bigSep Finset.univ fun j : Fin 3 => dutyTok ER (barCell (srcOf j c)) 0 j) ∗ (bigSep Finset.univ fun j : Fin 3 => dutyTok ER (sndCell c j) 0 j)
      ∗ (bigSep Finset.univ fun j : Fin 3 => dutyTok ER (rcvCell (dstOf j c) j) 0 j)) : sProp 𝕄) ⊢ payToks c := by
    simp only [bigSep_fin3]
    unfold payToks
    iintro ⟨⟨H0, H1, H2⟩, Hs, Hr⟩
    isplitl [H0 H1 H2]
    · isplitl [H2]; · iexact H2
      isplitl [H1]; · iexact H1
      iexact H0
    isplitl [Hs]; · iexact Hs
    iexact Hr
  refine Entails.trans (Entails.of_eq ?_) (bigSep_mono fun c _ => hp c)
  unfold toks
  rw [bigSep_sep', bigSep_sep', bigSep_sep', bigSep_sep',
    dealt (fun j => (around j).symm) (fun j c => (dutyTok ER (barCell c) 0 j : sProp 𝕄)), dealt around (fun j c => (dutyTok ER (rcvCell c j) 0 j : sProp 𝕄))]
  rfl

theorem regroup : (bigSep Finset.univ fun c : Dev nD => iprop(opens m c ∗ marks c ∗ places c ∗ toks c ∗ localSems c) : sProp 𝕄) ⊢ bigSep Finset.univ (G' m) := by
  have hg (K : Dev nD × Site → ℕ) (c : Dev nD) : iprop(records m K ∗ places c ∗ payToks c ∗ localSems c) ⊢ G' m c := by
    unfold G' part places positions
    rw [bigSep_sites]
    iintro ⟨HR, ⟨H0, H1, H2, H3, H4, H5, H6⟩, Ht, Hl⟩
    isplitr [Hl]
    · iexists K
      isplitl [HR]; · iexact HR
      isplitr [Ht]
      · isplitl [H0]; · iexact H0
        isplitl [H1 H2 H3]
        · isplitl [H1]; · iexact H1
          isplitl [H2]; · iexact H2
          iexact H3
        isplitl [H4]; · iexact H4
        isplitl [H5]; · iexact H5
        iexact H6
      iexact Ht
    iexact Hl
  have hi : (bigSep Finset.univ fun c : Dev nD => opens m c) ⊢ iprop(∃ K : Dev nD × Site → ℕ, bigSep Finset.univ fun x : Dev nD × Site => cellInv ER (sched m) (K x) (kcell x)) := by
    unfold opens
    rw [← bigSep_univ_prod (fun x : Dev nD × Site => iprop(∃ κ : ℕ, cellInv ER (sched m) κ (kcell x)))]
    exact BI.bigSep_exists_pi Finset.univ (fun (x : Dev nD × Site) (κ : ℕ) => (cellInv ER (sched m) κ (kcell x) : sProp 𝕄))
  have hm : (bigSep Finset.univ fun c : Dev nD => (marks c : sProp 𝕄)) ⊢ bigSep Finset.univ fun x : Dev nD × Site => reached ER (kcell x) 0 := by
    unfold marks
    rw [← bigSep_univ_prod (fun x : Dev nD × Site => (reached ER (kcell x) 0 : sProp 𝕄))]
  simp only [bigSep_sep']
  iintro ⟨HI, HM, HP, HT, HL⟩
  ihave HI := hi $$ HI
  icases HI with ⟨%K, HI⟩
  ihave HM := hm $$ HM
  ihave HT := (toks_dealt (F := F)) $$ HT
  iapply (bigSep_beside (R := records m K) fun c _ => hg K c)
  isplitl [HI HM]
  · unfold records; isplitl [HI] <;> iassumption
  simp only [bigSep_sep']
  isplitl [HP]; · iexact HP
  isplitl [HT] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_open m c).trans (bigSep_fupd _ _)).trans (BI.fupd_mono (regroup m))

/-! ## The credit -/

omit [FloatOps F] in
theorem cred_unit (k : Fin 3) (c : Dev nD) : (Pipeline.launchCred (fun d => owedUnit d (k.val + 1)) c : sProp 𝕄) ⊢ cred (tallyAt (barCell c) () 1) :=
  Pipeline.launchCred_tallyAt (.reg barS) (dstOf k) (srcOf k) (dst_src k) (src_dst k) () 1 c
omit [FloatOps F] in
theorem cred_copy (j : Fin 3) (c : Dev nD) : (Pipeline.launchCred (fun d => owedCopy d j) c : sProp 𝕄) ⊢ cred (tallyAt (rcvCell c j) () N) :=
  Pipeline.launchCred_tallyAt (.dma (rcvS j)) (dstOf j) (srcOf j) (dst_src j) (src_dst j) () N c

omit [FloatOps F] in
theorem three_units (c : Dev nD) : (iprop(cred (tallyAt (barCell c) () 1) ∗ cred (tallyAt (barCell c) () 1) ∗ cred (tallyAt (barCell c) () 1)) : sProp 𝕄)
    ⊢ cred (tallyAt (barCell c) () 3) := by
  have h : (tallyAt (barCell c) () 3 : CellTallies nD τ sig Unit) = tallyAt (barCell c) () 1 + (tallyAt (barCell c) () 1 + tallyAt (barCell c) () 1) := by
    rw [tallyAt_add, tallyAt_add]
  rw [h]
  iintro ⟨H0, H1, H2⟩
  iapply (cred_add _ _).2
  isplitl [H0]; · iexact H0
  iapply (cred_add _ _).2
  isplitl [H1] <;> iassumption

theorem creds (c : Dev nD) : (Pipeline.launchCred E₁ c : sProp 𝕄) ⊢ credits c := by
  have h : (Pipeline.launchCred E₁ c : sProp 𝕄)
      = iprop(((((Pipeline.launchCred (fun d => owedCopy d 2) c ∗ Pipeline.launchCred (fun d => owedCopy d 0) c) ∗ Pipeline.launchCred (fun d => owedCopy d 1) c)
        ∗ Pipeline.launchCred (fun d => owedUnit d 3) c) ∗ Pipeline.launchCred (fun d => owedUnit d 2) c) ∗ Pipeline.launchCred (fun d => owedUnit d 1) c) := by
    rw [← Pipeline.launchCred_add, ← Pipeline.launchCred_add, ← Pipeline.launchCred_add, ← Pipeline.launchCred_add, ← Pipeline.launchCred_add]; rfl
  rw [h]
  unfold credits
  iintro ⟨⟨⟨⟨⟨H2, H0⟩, H1⟩, U3⟩, U2⟩, U1⟩
  isplitl [U1 U2 U3]
  · iapply (three_units (F := F) c)
    isplitl [U1]; · iapply (cred_unit (F := F) 0 c); iexact U1
    isplitl [U2]; · iapply (cred_unit (F := F) 1 c); iexact U2
    iapply (cred_unit (F := F) 2 c); iexact U3
  isplitl [H0]; · iapply (cred_copy (F := F) 0 c); iexact H0
  isplitl [H1]; · iapply (cred_copy (F := F) 1 c); iexact H1
  iapply (cred_copy (F := F) 2 c); iexact H2

end Cert.Exchange

end
-- ==== Proof.Launch.lean ====
/-
# The run

The launch hands every device its part of the exchange and its buffers; the body takes them to the finished result;
the final memory is read off. For any float values, from any memory with zero counters.
-/
module

public import proofs.«01_k».proof.Proof.Body
public import proofs.«01_k».proof.Proof.Pieces
public import proofs.«01_k».proof.Proof.Funding
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory the run starts from. -/
def s₀ : MemSt nD τ sig (Elt F) := ⟨m, fun _ => 0, ρ⟩

/-- The call's state: no windows, the body's state before and after its one point. -/
def dats (_ : Fin 1) (c : Dev nD) : Dat τ (Elt F) Unit ℕ UU ℕ cfg0 c where
  A w := w.elim0
  after w _ := w.elim0
  Φ t := match t with
    | ⟨0, _⟩ => bodyPre m c
    | ⟨_ + 1, _⟩ => bodyPost m c
  q _ := fullShare
  owed t := match t with
    | ⟨0, _⟩ => E₁ c
    | ⟨_ + 1, _⟩ => 0

omit [FloatOps F] in
theorem no_windows (Φ : Fin cfg0.W → sProp 𝕄) : bigSep Finset.univ Φ = iprop(emp) := by
  rw [show (Finset.univ : Finset (Fin cfg0.W)) = ∅ from rfl, BI.bigSep_empty]; rfl

/-- The call's body obligation on device `c`. -/
theorem body_obligation (c : Dev nD) : BodyObligation (dats m 0 c) (defs₀ (F := F)) 𝒱₀ () Set.univ := fun t => by
  rw [fin_N0 t]
  rw [no_windows, no_windows]
  show iprop(bodyPre m c ∗ (dats m 0 c).owesAt () (Fin.castSucc (t0_0 : Fin cfg0.N)) ∗ emp) ⊢ wp frame (wpE (defs₀ (F := F)) 𝒱₀ c none) Set.univ
    (bodyAt0 (F := F) t0_0) (fun _ => iprop(bodyPost m c ∗ (dats m 0 c).owesAt () (Fin.succ (t0_0 : Fin cfg0.N)) ∗ emp))
  have hq : (iprop(bodyPost m c ∗ ∃ W', owes (c : Thread nD τ) 0 W') : sProp 𝕄) ⊢ iprop(bodyPost m c ∗ (dats m 0 c).owesAt () (Fin.succ (t0_0 : Fin cfg0.N)) ∗ emp) := by
    unfold Dat.owesAt Pipeline.owesWithin
    rw [show (dats m 0 c).owed (Fin.succ (t0_0 : Fin cfg0.N)) = 0 from rfl]
    iintro ⟨Hb, %W', HO⟩
    isplitl [Hb]; · iexact Hb
    isplitl [HO]
    · iexists W'
      isplitr; · ipureintro; exact fun _ _ => Or.inl trivial
      iexact HO
    iempintro
  have hr (W : Waits sig Unit) := (run_body m c W).trans (wp_mono _ _ _ fun _ => hq)
  unfold Dat.owesAt Pipeline.owesWithin at hr ⊢
  rw [show (dats m 0 c).owed (Fin.castSucc (t0_0 : Fin cfg0.N)) = E₁ c from rfl]
  iintro ⟨Hp, ⟨%W, -, HO⟩, -⟩
  iapply (hr W)
  isplitl [Hp] <;> iassumption

theorem ownSemFacts : Pipeline.OwnSemFacts cfg0.spec osem := by decide

theorem share_eq (c : Dev nD) (w : Fin cfg0.W) : (dats m 0 c).share w = fullShare := w.elim0

/-- The launch element: the call's cells, the exchange's cells and tokens, no counters. -/
def u₀ : UU := (initOf (Pipeline.cells cfgs cellOf_inj) (Pipeline.launchToks cfgs cellOf_inj), (initOf allCells allDues, 1))

theorem launch_elt : (ownU u₀ : sProp 𝕄) ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb embR (initOf allCells allDues) (1 : Counters)) $$ HX
  icases H with ⟨HX, -⟩
  imod (opened m) $$ HX with HG
  imodintro
  isplitl [HP] <;> iassumption

/-- What device `c` holds when its call is entered, besides the scratch buffers. -/
def start (c : Dev nD) : sProp 𝕄 := iprop(inPts m c ∗ outStart c ∗ levAts L lv ∗ credits c ∗ G' m c)
/-- What it holds when the call has returned, besides them. -/
def finish (c : Dev nD) : sProp 𝕄 := iprop(inPts m c ∗ outDone m c ∗ unscopedSems0 c)

theorem start_intro (c : Dev nD) :
    iprop(Pipeline.unscopedRestP Pipeline.Prefetch.none cfg0.spec c (fun b => m ((c : Thread nD τ).loc b)) ∗ levAts L lv
        ∗ Pipeline.launchCred E₁ c ∗ prngReg c (ρ c) ∗ G' m c)
      ⊢ |={Set.univ}=> iprop(start m c ∗ emp) := by
  rw [Pipeline.unscopedRestP_none, unscopedRest0_eq]
  unfold start
  iintro ⟨⟨H0, H1, Hv⟩, Hlev, Hcr, -, HG⟩
  ihave Hc := (creds (F := F) c) $$ Hcr
  ihave Hin := (in_split m c) $$ [H0 H1]
  · isplitl [H0] <;> iassumption
  ihave Hout := (out_split c (m ((c : Thread nD τ).loc main_v1))) $$ Hv
  imodintro
  isplitl
  · isplitl [Hin]; · iexact Hin
    isplitl [Hout]; · iexact Hout
    isplitl [Hlev]; · iexact Hlev
    isplitl [Hc] <;> iassumption
  iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = bodyPre m c from rfl, scopedRest0_eq]
  unfold start G' bodyPre
  iintro ⟨⟨Hin, Hout, Hlev, Hc, Hp, Hl⟩, -, Hs⟩
  ihave Hw := (show (scratchPts c : sProp 𝕄) ⊢ workPts c from work_split c) $$ [Hs]
  · unfold scratchPts; iexact Hs
  isplitl [Hin]; · iexact Hin
  isplitl [Hw]; · iexact Hw
  isplitl [Hout]; · iexact Hout
  isplitl [Hl]; · iexact Hl
  isplitl [Hlev]; · iexact Hlev
  isplitl [Hc] <;> iassumption

theorem leave (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = bodyPost m c from rfl, scopedRest0_eq]
  unfold finish bodyPost
  iintro ⟨Hin, Hw, Hout, Hl, Hs⟩
  ihave H := (sems_join (F := F) c) $$ [Hl Hs]
  · isplitl [Hl] <;> iassumption
  icases H with ⟨Hu, Hos⟩
  ihave Hw := (work_join (F := F) c) $$ Hw
  isplitl [Hin Hout Hu]
  · isplitl [Hin]; · iexact Hin
    isplitl [Hout] <;> iassumption
  isplitl [Hos]; · iexact Hos
  unfold scratchPts
  iexact Hw

theorem waits (c : Dev nD) : (levAts L lv : sProp 𝕄) ⊢ Pipeline.cellsWaits cfgs (dats m) () 0 c :=
  Pipeline.cellsWaits_intro cfgs (dats m) () 0 c fun w s t => w.elim0

set_option maxRecDepth 8000 in
/-- For any float values, from any memory with zero counters: every weakly fair execution of the four devices
    terminates, and in every final state each device's arguments are unchanged, its result holds the block it computed
    and the three that it was sent, and every semaphore counter is zero. -/
theorem run_main : θ_run defs (onTc (τ := τ) (main (F := F))) (s₀ m ρ) (fun r => (∀ c : Dev nD, Reads m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := E₁) (howed₀ := fun _ => rfl) (howedN := fun _ => rfl)
    (L := L) (lv := lv) (hL := L_of_ne) (hwaits := waits m)
    (G := G m) (G' := G' m) (u₀ := u₀)
    (hu₀ := launch_elt m)
    (hglob := glob m)
    (hA := fun _ w => w.elim0) (hpf := fun _ k => k.elim0)
    (X := start m) (Y := finish m) (Z := fun _ => iprop(emp))
    (hX := start_intro m ρ) (hin := enter m) (hout := leave m)
    (QY := fun c s => Reads m c s ∧ ∀ sm : SemLoc sig, sm.isScoped .tc = false → s.sem ((c.tc : Thread nD τ), sm) = 0)
    (hY := fun c s' => by
      unfold finish
      iintro ⟨⟨Hin, Hout, Hu⟩, -, HSI⟩
      ihave H := (reads m c s') $$ [Hin Hout HSI]
      · isplitl [Hin]; · iexact Hin
        isplitl [Hout] <;> iassumption
      icases H with ⟨%hr, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hr, hs⟩
      iexact HSI)
    (hQ := fun _ h hs => ⟨fun c => (h c).2.2.1, sem_eq_zero hs fun c => (h c).2.2.2⟩)

end Cert.Exchange

end
-- ==== Proof.Block.lean ====
/-
# What one block computes

Over the extended reals a block of the kernel is the activation of a matrix product: at row `r` and
column `l` it holds the activation of `∑ k, x (r, k) · w (k, l)`. Rounding the block to a shorter format
for the way between two devices, and widening it again, change nothing there.
-/
module

public import proofs.«01_k».proof.Proof.Pieces
public import Idealize.ShloMosaic.Lib.StackMember
public import Idealize.ShloMosaic.Lib.KernelVsHost

@[expose] public section

noncomputable section

namespace Cert.Exchange

open Cert.KernelIdeal Cert.KernelIdeal.Gen

open Idealize.ShloMosaic
open Idealize.ShloMosaic.TcCoe
open Idealize.ShloMosaic.ValueIdx
open scoped BigOperators

/-- The number that a 32-bit word stands for. -/
abbrev word (b : BitVec 32) : EReal := FloatOps.ofBits (F := Ideal) .f32 b

/-- The activation of one number, `½·y·(1 + tanh (√(2/π)·(y + 0.044715·y³)))` at the constants' words. -/
def act (y : EReal) : EReal :=
  (word 0x3F000000#32 * y) * (word 0x3F800000#32 + FloatOps.tanh (F := Ideal) (φ := .f32) (word 0x3F4C422A#32 * (y + word 0x3D372713#32 * ((y * y) * y))))

/-- The same with the cube multiplied from the left, as a block multiplies it. -/
def actL (y : EReal) : EReal :=
  (word 0x3F000000#32 * y) * (word 0x3F800000#32 + FloatOps.tanh (F := Ideal) (φ := .f32) (word 0x3F4C422A#32 * (y + ((word 0x3D372713#32 * y) * y) * y)))

theorem actL_eq (y : EReal) : actL y = act y := by
  unfold actL act
  rw [mul_assoc (word 0x3D372713#32 * y) y y, mul_assoc (word 0x3D372713#32) y (y * y), mul_assoc y y y]

/-- The product that a block starts from. -/
abbrev prod (x : FVec Ideal S512x2048 .f32) (w : FVec Ideal S2048x512 .f32) : FVec Ideal S512x512 .f32 :=
  matmul dot_S512x2048_S2048x512_S512x512_1_0_0_1_n_n none x w (constant S512x512 .f32 0x00000000#32)

theorem prod_apply (x : FVec Ideal S512x2048 .f32) (w : FVec Ideal S2048x512 .f32) (r l : Fin 512) :
    prod x w (ix2 r l) = ∑ k : Fin 2048, x (ix2 r k) * w (ix2 k l) :=
  (congrFun (matmul_zero_eq_dotGeneral dot_S512x2048_S2048x512_S512x512_1_0_0_1_n_n none x w) (ix2 r l)).trans
    (StackMember.dotGeneral_plain_apply none x w r l)

/-- The block that is sent, -/
theorem pay4_apply (x : Vec Ideal S512x2048 .f32) (w : Vec Ideal S1x2048x512 .f32) (i : S512x512.Idx) :
    k0_pay4 x w i = actL (prod x (shapeCast S2048x512 w shapeCasts_S1x2048x512_S2048x512) i) := rfl

/-- and the block that is kept, at an index. -/
theorem pay6_apply (x : Vec Ideal S512x2048 .f32) (w : Vec Ideal S1x2048x512 .f32) (i : S512x512.Idx) :
    shapeCast S512x512 (k0_pay6 x w) casts_block i = actL (prod x (shapeCast S2048x512 w shapeCasts_S1x2048x512_S2048x512) i) := by
  unfold k0_pay6
  dsimp only
  rw [shapeCast_shapeCast]
  rfl

variable (m : (ℓ : Loc nD τ sig) → Buf (Elt Ideal) ℓ)

/-- The columns of `w` that device `c` loads for the device `k` places on. -/
def wcol (c : Dev nD) (k : Fin 4) : FVec Ideal S2048x512 .f32 := (wcolM c k).view.read (Elt Ideal) (m ((c : Thread nD τ).loc main_arg1))

theorem wAt_eq (c : Dev nD) (k : Fin 4) : shapeCast S2048x512 (wAt m c k) shapeCasts_S1x2048x512_S2048x512 = wcol m c k :=
  shapeCast_shapeCast ..

theorem off1_eq : ∀ (c : Dev nD) (k : Fin 4), k0_off1 c (BitVec.ofNat 32 k.val) = ![0, 512 * (sh k.val c).val] := by decide +kernel

/-- Column `l` of them is column `512·d + l` of `w`, for `d` the device they are loaded for. -/
theorem wcol_apply (c : Dev nD) (k : Fin 4) (r : Fin 2048) (l : Fin 512) (C : Fin 2048) (h : C.val = 512 * (sh k.val c).val + l.val) :
    wcol m c k (ix2 r l) = m ((c : Thread nD τ).loc main_arg1) (ix2 r C) := by
  have ho := off1_eq c k
  refine congrArg (m ((c : Thread nD τ).loc main_arg1)) (funext fun a => Fin.ext ?_)
  fin_cases a
  · show k0_off1 c (BitVec.ofNat 32 k.val) 0 + 1 * r.val = r.val
    rw [ho]; show 0 + 1 * r.val = r.val; omega
  · show k0_off1 c (BitVec.ofNat 32 k.val) 1 + 1 * l.val = C.val
    rw [ho]; show 512 * (sh k.val c).val + 1 * l.val = C.val; omega

/-- The block that device `p` computes for the device `k` places on. -/
def made (p : Dev nD) (k : Fin 4) (i : S512x512.Idx) : EReal := actL (prod (xAt m p) (wcol m p k) i)

theorem kept_apply (c : Dev nD) (i : S512x512.Idx) : kept m c i = made m c 0 i := by
  unfold kept made
  rw [pay6_apply, wAt_eq]

theorem sent_apply (p : Dev nD) (j : Fin 3) (i : S512x512.Idx) : sent m p j i = made m p j.succ i := by
  unfold sent made
  rw [pay4_apply, wAt_eq]

theorem got_apply (c : Dev nD) (j : Fin 3) (i : S512x512.Idx) : got m c j i = made m (srcOf j c) j.succ i :=
  sent_apply m (srcOf j c) j i

/-- A block at row `r` and column `l`, where column `C` of `w` is column `l` of the block's target. -/
theorem made_apply (p : Dev nD) (k : Fin 4) (r l : Fin 512) (C : Fin 2048) (h : C.val = 512 * (sh k.val p).val + l.val) :
    made m p k (ix2 r l) = act (∑ q : Fin 2048, xAt m p (ix2 r q) * m ((p : Thread nD τ).loc main_arg1) (ix2 q C)) := by
  unfold made
  rw [actL_eq, prod_apply]
  exact congrArg act (Finset.sum_congr rfl fun q _ => congrArg (xAt m p (ix2 r q) * ·) (wcol_apply m p k q l C h))

end Cert.Exchange

end
-- ==== Proof.Ref.lean ====
/-
# What the reference computes

On its one device the reference forms the whole product and applies the activation to every element:
at row `R` and column `C` its result is the activation of `∑ k, X (R, k) · W (k, C)`.
-/
module

public import proofs.«01_k».proof.Proof.Block
public import proofs.«01_k».proof.Proof.Gen.ReferenceIdeal.Run

@[expose] public section

noncomputable section

namespace Cert.Exchange.Whole

open Cert.ReferenceIdeal Cert.ReferenceIdeal.Gen

open Idealize.ShloMosaic
open Idealize.ShloMosaic.TcCoe
open Idealize.ShloMosaic.ValueIdx Idealize.SL.Sem
open scoped BigOperators

/-- The whole result: the activation of the product of the whole arrays. -/
def result (X W : FVec Ideal S2048x2048 .f32) : FVec Ideal S2048x2048 .f32 := fun i =>
  act (Host.dotGeneral dot_S2048x2048_S2048x2048_S2048x2048_1_0_0_1_n_n none X W i)

/-- It is read at a row and a column as the activation of one sum. -/
theorem result_apply (X W : FVec Ideal S2048x2048 .f32) (R C : Fin 2048) :
    result X W (ix2 R C) = act (∑ k : Fin 2048, X (ix2 R k) * W (ix2 k C)) :=
  congrArg act (StackMember.dotGeneral_plain_apply none X W R C)

/-- The reference ends with that result, its arguments as they were, and no counter raised: it has no semaphore. -/
theorem run_main (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v13) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c).1.trans rfl, (h c).2⟩, sem_eq_zero_of_no_sems (by decide) r.2⟩)
    (Value.run (F := Ideal) m ρ)

end Cert.Exchange.Whole

end
-- ==== Proof.Value.lean ====
/-
# The equation

Device `c`'s result is block `c` of the whole result along the columns. A row of it belongs to one row
block, computed by one device `p`; that device had those rows of `X` and multiplied them by the columns of
`W` that belong to `c`.
-/
module

public import proofs.«01_k».proof.Proof.Ref

@[expose] public section

noncomputable section

namespace Cert.Exchange

open Cert.KernelIdeal Cert.KernelIdeal.Gen

open Idealize.ShloMosaic
open Idealize.ShloMosaic.TcCoe
open Idealize.ShloMosaic.ValueIdx
open scoped BigOperators

variable (m : (ℓ : Loc nD τ sig) → Buf (Elt Ideal) ℓ)

/-- Row `r` of a row block that begins at row `512·p` of the result is row `512·p + r` of it. -/
theorem rows_apply (p : Dev nD) (off : Fin 2 → ℕ) (h : off = ![512 * p.val, 0]) (inb : ∀ a, off a + S512x512.size a ≤ S2048x512.size a)
    (f : Vec Ideal S2048x512 .f32) (R : Fin 2048) (r l : Fin 512) (hR : R.val = 512 * p.val + r.val) :
    f ((Rect.unit (s := S2048x512) off S512x512.size inb).idx (ix2 r l)) = f (ix2 R l) := by
  subst h
  refine congrArg f (funext fun a => Fin.ext ?_)
  fin_cases a
  · show 512 * p.val + 1 * r.val = R.val; omega
  · show 0 + 1 * l.val = l.val; omega

/-- Every device is device `c` itself or the source of one of its slots, -/
theorem sources : ∀ c p : Dev nD, p = c ∨ ∃ j : Fin 3, p = srcOf j c := by decide
/-- and what it computes there it computes for `c`. -/
theorem target_self : ∀ c : Dev nD, sh (0 : Fin 4).val c = c := by decide
theorem target_src : ∀ (j : Fin 3) (c : Dev nD), sh j.succ.val (srcOf j c) = c := by decide

/-- Row `512·p + r` of device `c`'s result is row `r` of the block that device `p` computed for `c`. -/
theorem result_row (c : Dev nD) (s : MemSt nD τ sig (Elt Ideal)) (h : Reads m c s) (p : Dev nD) (R : Fin 2048) (r l : Fin 512)
    (hR : R.val = 512 * p.val + r.val) :
    ∃ k : Fin 4, sh k.val p = c ∧ (s.mem ((c : Thread nD τ).loc main_v1) : Vec Ideal S2048x512 .f32) (ix2 R l) = made m p k (ix2 r l) := by
  rcases sources c p with rfl | ⟨j, rfl⟩
  · exact ⟨0, target_self p, (rows_apply p _ (k0_off2_eq p) (k0_off2_inb p) _ R r l hR).symm.trans
      ((congrFun h.2.2.1 (ix2 r l)).trans (kept_apply m p _))⟩
  · exact ⟨j.succ, target_src j c, (rows_apply _ _ (off3_eq c j) (k0_off3_inb c j) _ R r l hR).symm.trans
      ((congrFun (h.2.2.2 j) (ix2 r l)).trans (got_apply m c j _))⟩

/-- Device `c`'s result is its block of the whole result, where every device has its rows of `X` and all of `W`. -/
theorem result_eq (X W : FVec Ideal ⟨2, ![2048, 2048]⟩ .f32)
    (hX : ∀ p : Dev nD, m ((p : Thread nD τ).loc main_arg0) = Layout.block ⟨2, ![512, 2048]⟩ ⟨2, ![2048, 2048]⟩ 0 4 p X)
    (hW : ∀ p : Dev nD, m ((p : Thread nD τ).loc main_arg1) = W)
    (c : Dev nD) (s : MemSt nD τ sig (Elt Ideal)) (h : Reads m c s) :
    s.mem ((c : Thread nD τ).loc main_v1) = Layout.block ⟨2, ![2048, 512]⟩ ⟨2, ![2048, 2048]⟩ 1 4 c (Whole.result X W) := by
  funext (i : S2048x512.Idx)
  obtain ⟨R, l, rfl⟩ : ∃ (R : Fin 2048) (l : Fin 512), i = ix2 R l := ⟨i 0, i 1, eq_ix2 i⟩
  have hp : R.val / 512 < 4 := by omega
  let p : Dev nD := ⟨R.val / 512, hp⟩
  let r : Fin 512 := ⟨R.val % 512, Nat.mod_lt _ (by decide)⟩
  have hR : R.val = 512 * p.val + r.val := (Nat.div_add_mod R.val 512).symm
  obtain ⟨k, hk, hv⟩ := result_row m c s h p R r l hR
  have hc : c.val < 4 := c.isLt
  let C : Fin 2048 := ⟨512 * c.val + l.val, by omega⟩
  refine hv.trans ((made_apply m p k r l C (by rw [hk])).trans ?_)
  have hT : Layout.Tiles ⟨2, ![2048, 512]⟩ ⟨2, ![2048, 2048]⟩ 1 4 := by decide
  have hS : Layout.Tiles ⟨2, ![512, 2048]⟩ ⟨2, ![2048, 2048]⟩ 0 4 := by decide
  have hi : hT.idx c (ix2 R l) = ix2 R C := by
    have h' := Layout.idx_cols_val hT c (ix2 R l)
    funext a
    refine Fin.ext ?_
    fin_cases a
    · exact h'.1
    · exact h'.2.trans (by show c.val * 512 + l.val = 512 * c.val + l.val; omega)
  refine Eq.trans ?_ (congrArg (Whole.result X W) hi).symm
  rw [Whole.result_apply]
  refine congrArg act (Finset.sum_congr rfl fun q _ => ?_)
  have hx : xAt m p (ix2 r q) = X (ix2 R q) := by
    refine (congrFun (hX p) (ix2 r q)).trans (congrArg X (funext fun a => Fin.ext ?_))
    have h' := Layout.idx_rows_val hS p (ix2 r q)
    fin_cases a
    · exact h'.1.trans (by show p.val * 512 + r.val = R.val; omega)
    · exact h'.2
  rw [hx, hW p]

end Cert.Exchange

end
-- ==== Proof.lean ====
/-
# The certificate

The kernel's run (Proof/Launch.lean) and the reference's (Proof/Ref.lean) give the frames; the equation of
Proof/Value.lean relates their results.
-/
module

public import proofs.«01_k».proof.Proof.Launch
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The kernel runs, leaves its arguments as they were and every counter at zero: its run with the values dropped. -/
theorem frame_kernel : Cert.quiescent_Kernel := fun m ρ _ =>
  (θ_run Cert.KernelIdeal.defs _ _).mono (fun _ h => ⟨fun c => ⟨(h.1 c).1, (h.1 c).2.1⟩, h.2⟩) (Cert.Exchange.run_main (F := Bits) m ρ)

/-- The same over the extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.Exchange.run_main (F := Ideal) m ρ)

/-- The reference runs, leaves its arguments as they were and every counter at zero. -/
theorem frame_reference : Cert.quiescent_ReferenceIdeal := fun m ρ _ =>
  (θ_run Cert.ReferenceIdeal.defs _ _).mono (fun _ h => ⟨fun c => (h.1 c).2, h.2⟩) (Cert.Exchange.Whole.run_main m ρ)

/-- No operation was rewritten. -/
theorem preserves : Cert.preserves_Kernel_KernelIdeal := trivial

/-- Every device of the kernel ends with its columns of what the reference computes from the whole arrays. -/
theorem algebraic : Cert.algebraic_KernelIdeal_ReferenceIdeal := fun m ρ m' ρ' _ hargs =>
  ⟨Cert.Exchange.Whole.result _ _,
    (θ_run Cert.KernelIdeal.defs _ _).mono
      (fun _ h c => ⟨Cert.Exchange.result_eq m _ _ (fun p => (hargs p).1) (fun p => (hargs p).2) c _ (h.1 c), (h.1 c).1, (h.1 c).2.1⟩)
      (Cert.Exchange.run_main (F := Ideal) m ρ),
    (θ_run Cert.ReferenceIdeal.defs _ _).mono (fun _ h => h.1 0) (Cert.Exchange.Whole.run_main m' ρ')⟩

theorem claim : Cert.Claim :=
  ⟨Cert.Kernel.Gen.facts, Cert.KernelIdeal.Gen.facts, Cert.ReferenceIdeal.Gen.facts, frame_kernel, frame_ideal, frame_reference, preserves, algebraic⟩

end Cert.Proof

end
